-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S4x512x2048 : Shape := ⟨3, ![4, 512, 2048]⟩
abbrev S6 : Shape := ⟨1, ![6]⟩
abbrev S_ : Shape := ⟨0, ![]⟩
abbrev S256x2048 : Shape := ⟨2, ![256, 2048]⟩
abbrev S1x256x2048 : Shape := ⟨3, ![1, 256, 2048]⟩
abbrev S1 : Shape := ⟨1, ![1]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S2048x512, .f32⟩
  | .local _ .vmem, ⟨0, _⟩ => ⟨S512x2048, .bf16⟩
  | .local _ .vmem, ⟨1, _⟩ => ⟨S2048x512, .bf16⟩
  | .local _ .vmem, ⟨2, _⟩ => ⟨S2048x512, .f32⟩
  | .local _ .vmem, ⟨3, _⟩ => ⟨S2048x512, .bf16⟩
  | .local _ .vmem, ⟨4, _⟩ => ⟨S4x512x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_20 : BitVec 32 := 1#32
  let v20 : BitVec 32 := Scalar.muli v5 c1_i32_20
  let v21 : BitVec 32 := Scalar.addi c0_i32_21 v20
  v21.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v30 : BitVec 32 := Scalar.muli v7 c1_i32_30
  let v31 : BitVec 32 := Scalar.addi c0_i32_31 v30
  v31.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_44 : BitVec 32 := 1#32
  let v45 : BitVec 32 := Scalar.muli v5 c1_i32_44
  let v46 : BitVec 32 := Scalar.addi c0_i32_45 v45
  v46.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v55 : BitVec 32 := Scalar.muli v7 c1_i32_52
  let v56 : BitVec 32 := Scalar.addi c0_i32_53 v55
  v56.toNat
def k0_off1 (d0 : Dev nD) (c0_i32_68 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v76 : BitVec 32 := Scalar.muli v2 c512_i32
  let v77 : BitVec 32 := Scalar.addi v76 c0_i32_68
  let v78 : Index := Scalar.indexCast v77
  let c0_69 : Index := 0#32
  ![v78.toNat, 0]
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_94 : BitVec 32 := 1#32
  let v98 : BitVec 32 := Scalar.muli v5 c1_i32_94
  let v99 : BitVec 32 := Scalar.addi c0_i32_95 v98
  v99.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v116 : BitVec 32 := Scalar.muli v7 c1_i32_113
  let v117 : BitVec 32 := Scalar.addi c0_i32_114 v116
  v117.toNat
def k0_off2 (d0 : Dev nD) (c1_i32_3 : BitVec 32) (c0_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c512_i32_125 : BitVec 32 := 512#32
  let v132 : BitVec 32 := Scalar.muli v7 c512_i32_125
  let v133 : BitVec 32 := Scalar.addi v132 c0_i32_126
  let v134 : Index := Scalar.indexCast v133
  let c0_127 : Index := 0#32
  ![v134.toNat, 0]
def k0_off3 (d0 : Dev nD) (c256_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_134 : BitVec 32 := 512#32
  let v142 : BitVec 32 := Scalar.muli v5 c512_i32_134
  let v143 : BitVec 32 := Scalar.addi v142 c256_i32_135
  let v144 : Index := Scalar.indexCast v143
  let c0_136 : Index := 0#32
  ![v144.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Windows.lean ====
/-
# The ring of four devices and the windows of the gather buffer

Device `c` has a left neighbour `lft c` and a right neighbour `rgt c`. Its gather buffer (4 slots of 512 rows
of 2048 numbers) is used in eight WINDOWS: slot `s`, rows `256 h` to `256 h + 255` (`h = 0, 1`). Slot 0 holds the
device's own block of `x`, slot 1 the left neighbour's, slot 2 the right neighbour's and slot 3 that of the device
opposite. `gathered X c` is the buffer filled so, when device `d`'s block of `x` is `X d`. This module says what a
window's elements are, that the eight windows are disjoint and together the whole buffer, and that every copy of
the kernel carries a window of one device's `gathered` to a window of another's.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Ring
public import Idealize.ShloMosaic.Lib.Tactic

@[expose] public section

noncomputable section

namespace Cert.RingMatmul

open Cert.KernelIdeal Cert.KernelIdeal.Gen
open Idealize.ShloMosaic
open Idealize.ShloMosaic.TcCoe
open Idealize.ShloMosaic.ValueIdx

variable {F : FTy → Type} [FloatOps F]

/-! ## The ring -/

set_option backward.proofsInPublic true in
/-- The right neighbour. -/
def rgt (c : Dev nD) : Dev nD := ⟨(c.val + 1) % 4, Nat.mod_lt _ (by decide)⟩
set_option backward.proofsInPublic true in
/-- The left neighbour. -/
def lft (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide

/-- Going one to the right, as a bijection of the devices. -/
def around : Dev nD ≃ Dev nD := ⟨rgt, lft, lft_rgt, rgt_lft⟩

/-- Whose block slot `s` of device `c` holds once it is filled. -/
def origin (c : Dev nD) (s : Fin 4) : Dev nD := match s with | 0 => c | 1 => lft c | 2 => rgt c | 3 => opp c

/-! ## The buffers -/

abbrev xM : Memref sig .tc .vmem S512x2048 .bf16 := Memref.whole cc0_stg0_0
abbrev wM : Memref sig .tc .vmem S2048x512 .bf16 := Memref.whole cc0_stg1_0
abbrev oM : Memref sig .tc .vmem S2048x512 .f32 := Memref.whole cc0_stg2_0
abbrev wbM : Memref sig .tc .vmem S2048x512 .bf16 := Memref.whole cc0_scratch0
abbrev gM : Memref sig .tc .vmem S4x512x2048 .bf16 := Memref.whole cc0_scratch1

/-! ## A window -/

/-- The offsets of window `(s, h)`. -/
def off (s : Fin 4) (h : Fin 2) : Fin 3 → ℕ := ![s.val, 256 * h.val, 0]

theorem off_inb : ∀ (s : Fin 4) (h : Fin 2) (a : Fin 3), off s h a + S1x256x2048.size a ≤ S4x512x2048.size a := by decide

/-- The rectangle of window `(s, h)`. -/
abbrev winRect (s : Fin 4) (h : Fin 2) : Rect S4x512x2048 :=
  Rect.unit (s := S4x512x2048) (off s h) S1x256x2048.size (off_inb s h)

/-- The elements of window `(s, h)`. -/
abbrev win (s : Fin 4) (h : Fin 2) : Finset S4x512x2048.Idx := (winRect s h).set

/-- Window `(s, h)` as the copies see it: a 256 × 2048 array. -/
abbrev slab (s : Fin 4) (h : Fin 2) : Memref sig .tc .vmem S256x2048 .bf16 :=
  (gM.slice (winRect s h) (fun _ => rfl)).squeeze S256x2048 squeezes_S1x256x2048_S256x2048

/-- An element is in window `(s, h)` when its slot is `s` and its row is in the half `h`. -/
theorem mem_win {s : Fin 4} {h : Fin 2} {i : S4x512x2048.Idx} :
    i ∈ win s h ↔ (i 0).val = s.val ∧ (i 1).val / 256 = h.val := by
  have h1 : (i 1).val < 512 := (i 1).isLt
  have h2 : (i 2).val < 2048 := (i 2).isLt
  rw [Rect.mem_set_unit]
  constructor
  · intro hi
    have h0 : s.val ≤ (i 0).val ∧ (i 0).val < s.val + 1 := hi 0
    have h1 : 256 * h.val ≤ (i 1).val ∧ (i 1).val < 256 * h.val + 256 := hi 1
    omega
  · rintro ⟨e0, e1⟩ a
    match a with
    | ⟨0, _⟩ => show s.val ≤ (i 0).val ∧ (i 0).val < s.val + 1; omega
    | ⟨1, _⟩ => show 256 * h.val ≤ (i 1).val ∧ (i 1).val < 256 * h.val + 256; omega
    | ⟨2, _⟩ => show 0 ≤ (i 2).val ∧ (i 2).val < 0 + 2048; omega

/-- The window's slab view has exactly the window's elements. -/
theorem slab_set (s : Fin 4) (h : Fin 2) : (slab s h).view.set = win s h := by
  show (((View.whole cc0_scratch1).slice (winRect s h)).reshape S256x2048 _).set = _
  rw [View.set_reshape, View.set_slice_whole]

theorem row_lt (h : Fin 2) (x : Fin 256) : 256 * h.val + x.val < 512 := by
  have := h.isLt; have := x.isLt; omega

/-- Row `x`, column `y` of the window's slab is row `256 h + x` of its slot. -/
theorem slab_emb (s : Fin 4) (h : Fin 2) (x : Fin 256) (y : Fin 2048) :
    (slab s h).view.emb (ix2 x y) = (ix3 s (⟨256 * h.val + x.val, row_lt h x⟩ : Fin 512) y : S4x512x2048.Idx) := by
  show (winRect s h).emb (Shape.reshapeEquiv _ (ix2 x y)) = _
  rw [reshapeEquiv_ix2_1ab]
  funext a
  match a with
  | ⟨0, _⟩ => exact Fin.ext (by show s.val + 1 * 0 = s.val; omega)
  | ⟨1, _⟩ => exact Fin.ext (by show 256 * h.val + 1 * x.val = 256 * h.val + x.val; omega)
  | ⟨2, _⟩ => exact Fin.ext (by show 0 + 1 * y.val = y.val; omega)

/-! ## The filled buffer -/

section Contents

variable (X : Dev nD → Vec F S512x2048 .bf16)

/-- The gather buffer of device `c`, filled: slot `s` holds the block of device `origin c s`. -/
def gathered (c : Dev nD) : S4x512x2048.Idx → Elt F .bf16 := fun i => X (origin c (i 0)) (ix2 (i 1) (i 2))

/-- Half `h` of a block, as a load of a window returns it. -/
def half (v : Vec F S512x2048 .bf16) (h : Fin 2) : Vec F S1x256x2048 .bf16 :=
  fun j => v (ix2 (⟨256 * h.val + (j 1).val, row_lt h (j 1)⟩ : Fin 512) (j 2))

/-- A slab of the filled buffer, read. -/
theorem slab_read (c : Dev nD) (s : Fin 4) (h : Fin 2) (x : Fin 256) (y : Fin 2048) :
    (slab s h).view.read (Elt F) (gathered X c) (ix2 x y)
      = X (origin c s) (ix2 (⟨256 * h.val + x.val, row_lt h x⟩ : Fin 512) y) := by
  rw [View.read_apply, slab_emb]; rfl

/-- A copy from window `(s, h)` of `c` to window `(s', h)` of `n` makes that window what it is in `n`'s filled
    buffer, when the two slots are for the same device's block. -/
theorem landed (c n : Dev nD) (s s' : Fin 4) (h : Fin 2) (ho : origin c s = origin n s')
    (f : S4x512x2048.Idx → Elt F .bf16) (i : S4x512x2048.Idx) (hi : i ∈ win s' h) :
    (slab s' h).view.write (Elt F) f ((slab s h).view.read (Elt F) (gathered X c)) Finset.univ i = gathered X n i := by
  rw [← slab_set s' h] at hi
  obtain ⟨j, -, rfl⟩ := Finset.mem_map.mp hi
  obtain ⟨x, y, rfl⟩ : ∃ (x : Fin 256) (y : Fin 2048), j = ix2 x y := ⟨j 0, j 1, eq_ix2 j⟩
  rw [View.write_emb_of_mem _ _ (Finset.mem_univ _), slab_read, slab_emb, ho]
  rfl

/-- A load of window `(s, h)` of the filled buffer returns half `h` of that slot's block. -/
theorem load_win (c : Dev nD) (s : Fin 4) (h : Fin 2) :
    gM.view.readAt (Elt F) (winRect s h).toLoadRect (gathered X c) = half (X (origin c s)) h := by
  funext j
  have e : (winRect s h).toLoadRect.idx j
      = (ix3 s (⟨256 * h.val + (j 1).val, row_lt h (j 1)⟩ : Fin 512) (j 2) : S4x512x2048.Idx) := by
    have h0 : (j 0).val < 1 := (j 0).isLt
    funext a
    match a with
    | ⟨0, _⟩ => exact Fin.ext (by show s.val + 1 * (j 0).val = s.val; omega)
    | ⟨1, _⟩ => exact Fin.ext (by show 256 * h.val + 1 * (j 1).val = 256 * h.val + (j 1).val; omega)
    | ⟨2, _⟩ => exact Fin.ext (by show 0 + 1 * (j 2).val = (j 2).val; omega)
  rw [View.readAt_apply, e]; rfl

theorem xoff_inb : ∀ (h : Fin 2) (a : Fin 2), (![256 * h.val, 0] : Fin 2 → ℕ) a + S256x2048.size a ≤ S512x2048.size a := by decide

/-- Half `h` of the block of `x` in the staging buffer. -/
abbrev xRect (h : Fin 2) : Rect S512x2048 := Rect.unit (s := S512x2048) ![256 * h.val, 0] S256x2048.size (xoff_inb h)

/-- The elements the store into window `(s, h)` writes. -/
theorem access_set (s : Fin 4) (h : Fin 2) : (gM.access (winRect s h)).set = win s h := by
  rw [View.set_slice_whole]

/-- The value stored into a window: the loaded half of the block with a leading unit axis. -/
theorem pay1_apply (v : Vec F S256x2048 .bf16) (u : Fin 1) (x : Fin 256) (y : Fin 2048) :
    k0_pay1 v (ix3 u x y) = v (ix2 x y) := by
  unfold k0_pay1
  rw [shapeCast_ab_1ab_apply, shapeCast_self]

/-- A load of half `h` of the block of `x`. -/
theorem load_x (v : S512x2048.Idx → Elt F .bf16) (h : Fin 2) (x : Fin 256) (y : Fin 2048) :
    xM.view.readAt (Elt F) (xRect h).toLoadRect v (ix2 x y) = v (ix2 (⟨256 * h.val + x.val, row_lt h x⟩ : Fin 512) y) := by
  have e : (xRect h).toLoadRect.idx (ix2 x y) = (ix2 (⟨256 * h.val + x.val, row_lt h x⟩ : Fin 512) y : S512x2048.Idx) := by
    funext a
    match a with
    | ⟨0, _⟩ => exact Fin.ext (by show 256 * h.val + 1 * x.val = 256 * h.val + x.val; omega)
    | ⟨1, _⟩ => exact Fin.ext (by show 0 + 1 * y.val = y.val; omega)
  rw [View.readAt_apply, e]; rfl

theorem access_emb (s : Fin 4) (h : Fin 2) (u : Fin 1) (x : Fin 256) (y : Fin 2048) :
    (gM.access (winRect s h)).emb (ix3 u x y) = (ix3 s (⟨256 * h.val + x.val, row_lt h x⟩ : Fin 512) y : S4x512x2048.Idx) := by
  have h0 : u.val < 1 := u.isLt
  funext a
  match a with
  | ⟨0, _⟩ => exact Fin.ext (by show s.val + 1 * u.val = s.val; omega)
  | ⟨1, _⟩ => exact Fin.ext (by show 256 * h.val + 1 * x.val = 256 * h.val + x.val; omega)
  | ⟨2, _⟩ => exact Fin.ext (by show 0 + 1 * y.val = y.val; omega)

/-- Storing half `h` of the block of `x` into window `(0, h)` makes it what it is in the filled buffer. -/
theorem stored (c : Dev nD) (h : Fin 2) (f : S4x512x2048.Idx → Elt F .bf16) (i : S4x512x2048.Idx) (hi : i ∈ win 0 h) :
    (gM.access (winRect 0 h)).write (Elt F) f
      (k0_pay1 (xM.view.readAt (Elt F) (xRect h).toLoadRect (X c))) Finset.univ i = gathered X c i := by
  rw [← access_set 0 h] at hi
  obtain ⟨j, -, rfl⟩ := Finset.mem_map.mp hi
  obtain ⟨u, x, y, rfl⟩ : ∃ (u : Fin 1) (x : Fin 256) (y : Fin 2048), j = ix3 u x y := ⟨j 0, j 1, j 2, eq_ix3 j⟩
  rw [View.write_emb_of_mem _ _ (Finset.mem_univ _), pay1_apply, load_x, access_emb]
  rfl

end Contents

/-! ## The eight windows are the buffer -/

/-- Distinct windows have no element in common. -/
theorem win_disjoint (p q : Fin 4 × Fin 2) (hpq : p ≠ q) : Disjoint (win p.1 p.2) (win q.1 q.2) := by
  rw [Finset.disjoint_left]
  intro i hi hj
  obtain ⟨a, b⟩ := mem_win.mp hi
  obtain ⟨a', b'⟩ := mem_win.mp hj
  exact hpq (Prod.ext (Fin.ext (a.symm.trans a')) (Fin.ext (b.symm.trans b')))

/-- Every element of the buffer is in some window. -/
theorem win_cover (i : S4x512x2048.Idx) : ∃ p : Fin 4 × Fin 2, i ∈ win p.1 p.2 := by
  have h1 : (i 1).val < 512 := (i 1).isLt
  exact ⟨(i 0, ⟨(i 1).val / 256, by omega⟩), mem_win.mpr ⟨rfl, rfl⟩⟩

end Cert.RingMatmul

end
-- ==== Proof.Output.lean ====
/-
# The result array and its eight blocks

Device `c`'s result has 2048 rows: rows `512 d + 256 h` to `512 d + 256 h + 255` are half `h` of device `d`'s block
of `x` times the device's columns of `w`, negative entries set to zero (`outBlock`). The kernel stores the eight
blocks one by one; `Filled T f` says that `f` has the right contents in the blocks of `T`.
-/
module

public import proofs.«01_k».proof.Proof.Windows

@[expose] public section

noncomputable section

namespace Cert.RingMatmul

open Cert.KernelIdeal Cert.KernelIdeal.Gen
open Idealize.ShloMosaic
open Idealize.ShloMosaic.TcCoe
open Idealize.ShloMosaic.ValueIdx

variable {F : FTy → Type} [FloatOps F]

variable (X : Dev nD → Vec F S512x2048 .bf16) (w : Vec F S2048x512 .bf16)

/-- One block of the result: half `h` of device `d`'s block of `x` times `w`, with negative entries set to zero. -/
def outBlock (d : Dev nD) (h : Fin 2) : Vec F S256x512 .f32 := k0_pay4 (half (X d) h) w

/-- The device whose rows of `x` row `i 0` of the result is computed from. -/
def rowDev (i : S2048x512.Idx) : Dev nD := ⟨(i 0).val / 512, by have : (i 0).val < 2048 := (i 0).isLt; show _ < 4; omega⟩
/-- The half of that device's block it is in. -/
def rowHalf (i : S2048x512.Idx) : Fin 2 := ⟨(i 0).val % 512 / 256, by omega⟩
/-- Its row there. -/
def rowIn (i : S2048x512.Idx) : Fin 256 := ⟨(i 0).val % 256, by omega⟩

/-- The whole result of a device whose columns of `w` are `w`. -/
def outOf : S2048x512.Idx → Elt F .f32 := fun i => outBlock X w (rowDev i) (rowHalf i) (ix2 (rowIn i) (i 1))

/-- The blocks in `T` of the result array are computed. -/
def Filled (T : Finset (Dev nD × Fin 2)) (f : S2048x512.Idx → Elt F .f32) : Prop :=
  ∀ i, (rowDev i, rowHalf i) ∈ T → f i = outOf X w i

theorem filled_empty (f : S2048x512.Idx → Elt F .f32) : Filled X w ∅ f := fun i hi => absurd hi (Finset.notMem_empty _)

/-- When all blocks are computed the array is the result. -/
theorem filled_all {T : Finset (Dev nD × Fin 2)} {f : S2048x512.Idx → Elt F .f32} (hf : Filled X w T f)
    (hT : T = Finset.univ) : f = outOf X w := funext fun i => hf i (hT ▸ Finset.mem_univ _)

/-- Storing a block at the rows of `(d, h)` adds it to the computed ones and leaves the others. -/
theorem filled_store {T : Finset (Dev nD × Fin 2)} {f : S2048x512.Idx → Elt F .f32} (hf : Filled X w T f)
    (d : Dev nD) (h : Fin 2) (o : Fin 2 → ℕ) (ho : o = ![512 * d.val + 256 * h.val, 0])
    (inb : ∀ a, o a + S256x512.size a ≤ S2048x512.size a) :
    Filled X w (insert (d, h) T)
      ((oM.access (Rect.unit (s := S2048x512) o S256x512.size inb)).write (Elt F) f (outBlock X w d h) Finset.univ) := by
  subst ho
  have hd : d.val < 4 := d.isLt
  have hh : h.val < 2 := h.isLt
  intro i hi
  by_cases hm : i ∈ (oM.access (Rect.unit (s := S2048x512) ![512 * d.val + 256 * h.val, 0] S256x512.size inb)).set
  · obtain ⟨j, -, rfl⟩ := Finset.mem_map.mp hm
    obtain ⟨x, y, rfl⟩ : ∃ (x : Fin 256) (y : Fin 512), j = ix2 x y := ⟨j 0, j 1, eq_ix2 j⟩
    have hx : x.val < 256 := x.isLt
    rw [View.write_emb_of_mem _ _ (Finset.mem_univ _)]
    have e : (oM.access (Rect.unit (s := S2048x512) ![512 * d.val + 256 * h.val, 0] S256x512.size inb)).emb (ix2 x y)
        = (ix2 (⟨512 * d.val + 256 * h.val + x.val, by omega⟩ : Fin 2048) y : S2048x512.Idx) := by
      funext a
      match a with
      | ⟨0, _⟩ => exact Fin.ext (by show 512 * d.val + 256 * h.val + 1 * x.val = 512 * d.val + 256 * h.val + x.val; omega)
      | ⟨1, _⟩ => exact Fin.ext (by show 0 + 1 * y.val = y.val; omega)
    rw [e]
    have e1 : rowDev (ix2 (⟨512 * d.val + 256 * h.val + x.val, by omega⟩ : Fin 2048) y) = d :=
      Fin.ext (by show (512 * d.val + 256 * h.val + x.val) / 512 = d.val; omega)
    have e2 : rowHalf (ix2 (⟨512 * d.val + 256 * h.val + x.val, by omega⟩ : Fin 2048) y) = h :=
      Fin.ext (by show (512 * d.val + 256 * h.val + x.val) % 512 / 256 = h.val; omega)
    have e3 : rowIn (ix2 (⟨512 * d.val + 256 * h.val + x.val, by omega⟩ : Fin 2048) y) = x :=
      Fin.ext (by show (512 * d.val + 256 * h.val + x.val) % 256 = x.val; omega)
    unfold outOf
    rw [e1, e2, e3]
    rfl
  · rw [View.write_of_not_mem _ _ _ hm]
    refine hf i ((Finset.mem_insert.mp hi).resolve_left fun he => hm ?_)
    have h0 : (i 0).val / 512 = d.val := congrArg (fun p : Dev nD × Fin 2 => p.1.val) he
    have h1 : (i 0).val % 512 / 256 = h.val := congrArg (fun p : Dev nD × Fin 2 => p.2.val) he
    have hy : (i 1).val < 512 := (i 1).isLt
    rw [View.set_slice_whole, Rect.mem_set_unit]
    intro a
    match a with
    | ⟨0, _⟩ => show 512 * d.val + 256 * h.val ≤ (i 0).val ∧ (i 0).val < 512 * d.val + 256 * h.val + 256; omega
    | ⟨1, _⟩ => show 0 ≤ (i 1).val ∧ (i 1).val < 0 + 512; omega

end Cert.RingMatmul

end
-- ==== Proof.Protocol.lean ====
/-
# The protocol: cells, what each pays, who owes what

Each device has thirteen semaphores the kernel uses: the barrier semaphore, six send semaphores and six receive
semaphores, one pair for each of the six copies a device starts:

| `i` | from window | to window | at the neighbour | started |
|-----|-------------|-----------|------------------|---------|
| 0   | (0, 0)      | (2, 0)    | left             | first   |
| 4   | (0, 0)      | (1, 0)    | right            | second  |
| 1   | (0, 1)      | (2, 1)    | left             | third   |
| 3   | (0, 1)      | (1, 1)    | right            | fourth  |
| 2   | (2, 0)      | (3, 0)    | left             | fifth, once copy 0 of the right neighbour landed |
| 5   | (1, 1)      | (3, 1)    | right            | sixth, once copy 3 of the left neighbour landed  |

Every semaphore has one round. The barrier of a device is paid one unit by each neighbour, who hands over with it the
three windows of its own buffer that the device will copy into. A receive semaphore is paid by the copy landing, with
the window, filled; a send semaphore by the copy having read its source, with the share of the window it read through.
-/
module

public import proofs.«01_k».proof.Proof.Output

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The six copies -/

/-- The slot copy `i` reads, -/
def srcSlot : Fin 6 → Fin 4 := ![0, 0, 2, 0, 0, 1]
/-- the slot it writes at the neighbour, -/
def dstSlot : Fin 6 → Fin 4 := ![2, 2, 3, 1, 1, 3]
/-- the half of both. -/
def halfOf : Fin 6 → Fin 2 := ![0, 1, 0, 1, 0, 1]
/-- Where copy `i` of `c` goes, -/
def toward (i : Fin 6) (c : Dev nD) : Dev nD := if i.val < 3 then lft c else rgt c
/-- and where the copy `i` that lands at `c` comes from. -/
def fromward (i : Fin 6) (c : Dev nD) : Dev nD := if i.val < 3 then rgt c else lft c

theorem fromward_toward (i : Fin 6) (c : Dev nD) : fromward i (toward i c) = c := by revert i c; decide
theorem toward_fromward (i : Fin 6) (c : Dev nD) : toward i (fromward i c) = c := by revert i c; decide

/-- The devices, moved the way copy `i` goes. -/
def carry (i : Fin 6) : Dev nD ≃ Dev nD := ⟨toward i, fromward i, fromward_toward i, toward_fromward i⟩

/-- The slot copy `i` reads at `c` and the slot it writes at the neighbour are for the same device's block. -/
theorem origin_copy (i : Fin 6) (c : Dev nD) : origin c (srcSlot i) = origin (toward i c) (dstSlot i) := by
  revert i c; decide

/-- The share of its source window copy `i` reads through: slot 0's windows are read by two copies at once. -/
def shareOf (i : Fin 6) : PosShare TreeShare :=
  if i = 3 ∨ i = 4 then (PosShare.right fullShare).left else PosShare.left fullShare

/-! ## The semaphores and the cells -/

abbrev barS : Sem sig := (SemArray.scalar (sig.barrier 0 rfl) : Sems sig S_).sem
set_option backward.proofsInPublic true in
/-- Send semaphore `i`. -/
abbrev sndS (i : Fin 6) : DmaSem sig := ⟨3 + i.val, by have := i.isLt; show _ < 15; omega⟩
set_option backward.proofsInPublic true in
/-- Receive semaphore `i`. -/
abbrev rcvS (i : Fin 6) : DmaSem sig := ⟨9 + i.val, by have := i.isLt; show _ < 15; omega⟩

abbrev barCell (c : Dev nD) : GSem nD τ sig := ((c : Thread nD τ), .reg barS)
abbrev sndCell (i : Fin 6) (c : Dev nD) : GSem nD τ sig := ((c : Thread nD τ), .dma (sndS i))
abbrev rcvCell (i : Fin 6) (c : Dev nD) : GSem nD τ sig := ((c : Thread nD τ), .dma (rcvS i))

/-- A device's cells: the barrier, the sends, the receives. -/
abbrev Kind : Type := Unit ⊕ (Fin 6 ⊕ Fin 6)
/-- The kernel's own semaphores: sends and receives. -/
abbrev osem : Fin 6 ⊕ Fin 6 → SemLoc sig := fun | .inl i => .dma (sndS i) | .inr i => .dma (rcvS i)
abbrev csem : Kind → SemLoc sig := fun | .inl _ => .reg barS | .inr k => osem k
abbrev kcell (ck : Dev nD × Kind) : GSem nD τ sig := ((ck.1 : Thread nD τ), csem ck.2)

abbrev kBar : Kind := .inl ()
abbrev kSnd (i : Fin 6) : Kind := .inr (.inl i)
abbrev kRcv (i : Fin 6) : Kind := .inr (.inr i)

/-- What a copy of one window counts on a semaphore. -/
abbrev N : ℕ := (slab 0 0).view.dmaCredit
theorem N_pos : 0 < N := View.dmaCredit_pos _ (by decide)
theorem credit_eq (s : Fin 4) (h : Fin 2) : (slab s h).view.dmaCredit = N := rfl

/-! ## What the cells pay -/

section Sched

variable (X : Dev nD → Vec F S512x2048 .bf16)

/-- Device `c` holds share `q` of its window `(s, h)`, which contains `f`. -/
def winPts (c : Dev nD) (s : Fin 4) (h : Fin 2) (q : PosShare TreeShare) (f : Buf (Elt F) ((c : Thread nD τ).loc cc0_scratch1)) : sProp 𝕄 :=
  ((c : Thread nD τ).loc cc0_scratch1) ↦[win s h]{q} f

omit [FloatOps F] in
instance winPts_storable (c : Dev nD) (s h q f) : BI.Storable (upEmb : UEmb _ 𝕄) (winPts (F := F) c s h q f) := by
  unfold winPts; infer_instance

/-- The window at `n` that copy `i` will overwrite, with whatever it contains. -/
def hole (i : Fin 6) (n : Dev nD) : sProp 𝕄 := iprop(∃ f, winPts (F := F) n (dstSlot i) (halfOf i) fullShare f)

omit [FloatOps F] in
instance hole_storable (i : Fin 6) (n : Dev nD) : BI.Storable (upEmb : UEmb _ 𝕄) (hole (F := F) i n) := by
  unfold hole; infer_instance

/-- What `c`'s barrier is paid with: by the right neighbour (`true`) the three windows of its own that `c` copies
    into, by the left neighbour (`false`) likewise. -/
def barPay (c : Dev nD) (d : Bool) : sProp 𝕄 :=
  if d then iprop(hole (F := F) 3 (rgt c) ∗ hole 4 (rgt c) ∗ hole 5 (rgt c))
  else iprop(hole (F := F) 0 (lft c) ∗ hole 1 (lft c) ∗ hole 2 (lft c))

/-- What receive cell `i` is paid with: the window, filled. -/
def rcvPay (i : Fin 6) (c : Dev nD) : sProp 𝕄 := winPts c (dstSlot i) (halfOf i) fullShare (gathered X c)
/-- What send cell `i` is paid with: the share of the window that was read. -/
def sndPay (i : Fin 6) (c : Dev nD) : sProp 𝕄 := winPts c (srcSlot i) (halfOf i) (shareOf i) (gathered X c)

omit [FloatOps F] in
instance barPay_storable (c : Dev nD) (d) : BI.Storable (upEmb : UEmb _ 𝕄) (barPay (F := F) c d) := by
  unfold barPay; split <;> infer_instance
omit [FloatOps F] in
instance rcvPay_storable (i) (c : Dev nD) : BI.Storable (upEmb : UEmb _ 𝕄) (rcvPay (F := F) X i c) := by
  unfold rcvPay; infer_instance
omit [FloatOps F] in
instance sndPay_storable (i) (c : Dev nD) : BI.Storable (upEmb : UEmb _ 𝕄) (sndPay (F := F) X i c) := by
  unfold sndPay; infer_instance

/-- A number below six, read off a semaphore's index. -/
def copyIx (n : ℕ) : Fin 6 := ⟨n % 6, Nat.mod_lt _ (by decide)⟩

/-- The schedule: one round, round 0. The barrier has two duties of one unit; a send or a receive cell has one duty, of a
    window's count. -/
def Rd : Rounds.Schedule (GSem nD τ sig) Bool 𝕄 where
  duties g r := if r = 0 ∧ g.1.2 = .tc then (match g.2 with
    | .reg s => if s = barS then Finset.univ else ∅
    | .dma q => if 3 ≤ q.val then {false} else ∅) else ∅
  unitless _ := False
  amount g _ _ := match g.2 with | .reg _ => 1 | .dma _ => N
  payload g _ d := match g.2 with
    | .reg _ => barPay g.1.1 d
    | .dma q => if q.val < 9 then sndPay X (copyIx (q.val - 3)) g.1.1 else rcvPay X (copyIx (q.val - 9)) g.1.1
  amount_pos g _ _ _ := by
    obtain ⟨t, s | q⟩ := g
    · exact Nat.one_pos
    · exact N_pos

omit [FloatOps F] in
instance Rd_payload_storable (g : GSem nD τ sig) (r : ℕ) (d : Bool) :
    BI.Storable (upEmb : UEmb _ 𝕄) ((Rd (F := F) X).payload g r d) := by
  obtain ⟨t, s | q⟩ := g
  · show BI.Storable upEmb (barPay t.1 d); infer_instance
  · show BI.Storable upEmb (if q.val < 9 then sndPay X (copyIx (q.val - 3)) t.1 else rcvPay X (copyIx (q.val - 9)) t.1)
    split <;> infer_instance

variable (i : Fin 6) (c : Dev nD)

omit [FloatOps F] in
theorem duties_bar : (Rd (F := F) X).duties (barCell c) 0 = Finset.univ := by
  dsimp only [Rd]; rw [if_pos ⟨rfl, rfl⟩]; exact if_pos rfl
omit [FloatOps F] in
theorem duties_snd : (Rd (F := F) X).duties (sndCell i c) 0 = {false} := by
  dsimp only [Rd]; rw [if_pos ⟨rfl, rfl⟩]; exact if_pos (Nat.le_add_right _ _)
omit [FloatOps F] in
theorem duties_rcv : (Rd (F := F) X).duties (rcvCell i c) 0 = {false} := by
  dsimp only [Rd]; rw [if_pos ⟨rfl, rfl⟩]; exact if_pos (by show 3 ≤ 9 + i.val; omega)
omit [FloatOps F] in
theorem duties_later (g : GSem nD τ sig) : ∀ r, 1 ≤ r → (Rd (F := F) X).duties g r = ∅ :=
  fun r hr => by dsimp only [Rd]; rw [if_neg fun h => by omega]

omit [FloatOps F] in
theorem amount_bar (d : Bool) : (Rd (F := F) X).amount (barCell c) 0 d = 1 := rfl
omit [FloatOps F] in
theorem amount_snd (d : Bool) : (Rd (F := F) X).amount (sndCell i c) 0 d = N := rfl
omit [FloatOps F] in
theorem amount_rcv (d : Bool) : (Rd (F := F) X).amount (rcvCell i c) 0 d = N := rfl

omit [FloatOps F] in
theorem expect_bar : (Rd (F := F) X).expect (barCell c) 0 = 2 := by
  unfold Schedule.expect Schedule.amountOf
  rw [duties_bar, Finset.sum_congr rfl fun d _ => amount_bar X c d, Finset.sum_const, Finset.card_univ, Fintype.card_bool, smul_eq_mul]
omit [FloatOps F] in
theorem expect_snd : (Rd (F := F) X).expect (sndCell i c) 0 = N := by
  unfold Schedule.expect Schedule.amountOf; rw [duties_snd, Finset.sum_singleton, amount_snd]
omit [FloatOps F] in
theorem expect_rcv : (Rd (F := F) X).expect (rcvCell i c) 0 = N := by
  unfold Schedule.expect Schedule.amountOf; rw [duties_rcv, Finset.sum_singleton, amount_rcv]

omit [FloatOps F] in
theorem payload_bar (d : Bool) : (Rd (F := F) X).payload (barCell c) 0 d = barPay c d := rfl

theorem copyIx_snd : copyIx (3 + i.val - 3) = i := Fin.ext (by show (3 + i.val - 3) % 6 = i.val; omega)
theorem copyIx_rcv : copyIx (9 + i.val - 9) = i := Fin.ext (by show (9 + i.val - 9) % 6 = i.val; omega)

omit [FloatOps F] in
theorem payload_snd (d : Bool) : (Rd (F := F) X).payload (sndCell i c) 0 d = sndPay X i c := by
  show (if 3 + i.val < 9 then sndPay X (copyIx (3 + i.val - 3)) c else rcvPay X (copyIx (3 + i.val - 9)) c) = _
  rw [if_pos (by omega), copyIx_snd]
omit [FloatOps F] in
theorem payload_rcv (d : Bool) : (Rd (F := F) X).payload (rcvCell i c) 0 d = rcvPay X i c := by
  show (if 9 + i.val < 9 then sndPay X (copyIx (9 + i.val - 3)) c else rcvPay X (copyIx (9 + i.val - 9)) c) = _
  rw [if_neg (by omega), copyIx_rcv]

omit [FloatOps F] in
/-- All of the barrier's round: both neighbours' windows. -/
theorem rest_bar : bigSep ((Rd (F := F) X).duties (barCell c) 0 \ ∅) (fun d => (Rd (F := F) X).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
theorem rest_snd : bigSep ((Rd (F := F) X).duties (sndCell i c) 0 \ ∅) (fun d => (Rd (F := F) X).payload (sndCell i c) 0 d) = sndPay X i c := by
  rw [Finset.sdiff_empty, duties_snd, bigSep_singleton, payload_snd]
omit [FloatOps F] in
theorem rest_rcv : bigSep ((Rd (F := F) X).duties (rcvCell i c) 0 \ ∅) (fun d => (Rd (F := F) X).payload (rcvCell i c) 0 d) = rcvPay X i c := by
  rw [Finset.sdiff_empty, duties_rcv, bigSep_singleton, payload_rcv]

end Sched

/-! ## What a device owes, and in which order cells are waited for -/

/-- The counts device `c` still owes when the copies in the list are yet to be started. -/
def oweCopies (c : Dev nD) : List (Fin 6) → CellTallies nD τ sig Unit
  | [] => 0
  | i :: l => oweCopies c l + tallyAt (rcvCell i (toward i c)) () N

/-- The copies in the order they are started. -/
abbrev order : List (Fin 6) := [0, 4, 1, 3, 2, 5]

/-- After the first signal, -/
def O₁ (c : Dev nD) : CellTallies nD τ sig Unit := oweCopies c order + tallyAt (barCell (rgt c)) () 1
/-- and at launch. -/
def O₀ (c : Dev nD) : CellTallies nD τ sig Unit := O₁ c + tallyAt (barCell (lft c)) () 1

def L (g : GSem nD τ sig) : Finset Unit := if g.1.2 = .tc then {()} else ∅
/-- Levels: staging and send cells 0, barriers 1, the first copies' receive cells 2, the forwarded ones' 3. -/
def lv (g : GSem nD τ sig) (_ : Unit) : ℕ := match g.2 with
  | .reg _ => 1
  | .dma q => if q.val < 9 then 0 else if q.val = 11 ∨ q.val = 14 then 3 else 2

theorem L_of_ne (g : GSem nD τ sig) (h : g.1.2 ≠ .tc) : L g = ∅ := if_neg h
theorem L_tc (c : Dev nD) (sm : SemLoc sig) : L ((c : Thread nD τ), sm) = {()} := if_pos rfl

/-- A receive cell's level. -/
def lvRcv (i : Fin 6) : ℕ := if i = 2 ∨ i = 5 then 3 else 2
theorem lv_rcv (i : Fin 6) (c : Dev nD) : lv (rcvCell i c) () = lvRcv i := by
  revert i; show ∀ i : Fin 6, (if 9 + i.val < 9 then 0 else if 9 + i.val = 11 ∨ 9 + i.val = 14 then 3 else 2) = lvRcv i; decide

theorem oweCopies_pos {c : Dev nD} {l : List (Fin 6)} {g : GSem nD τ sig} {u : Unit} (h : 0 < oweCopies c l g u) :
    ∃ i ∈ l, g = rcvCell i (toward i c) := by
  induction l with
  | nil => exact absurd h (Nat.lt_irrefl 0)
  | cons i l ih =>
    unfold oweCopies at h
    rw [Pi.add_apply, Finsupp.add_apply, tallyAt_apply] at h
    by_cases hg : g = rcvCell i (toward i c)
    · exact ⟨i, List.mem_cons_self, hg⟩
    · rw [if_neg (fun h' => hg h'.1), Nat.add_zero] at h
      obtain ⟨j, hj, e⟩ := ih h
      exact ⟨j, List.mem_cons_of_mem _ hj, e⟩

theorem O₀_pos {c : Dev nD} {g : GSem nD τ sig} {u : Unit} (h : 0 < O₀ c g u) :
    (∃ i, g = rcvCell i (toward i c)) ∨ ∃ n, g = barCell n := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨i, -, e⟩ := oweCopies_pos (c := c) (l := order) (g := g) (u := u) (by omega)
  exact hn.1 ⟨i, e⟩

omit [FloatOps F] in
/-- A device may wait on a cell whose level is below those of the copies it has yet to start. -/
theorem mayWait_copies (c : Dev nD) (sm : SemLoc sig) (l : List (Fin 6)) (hl : ∀ i ∈ l, lv ((c : Thread nD τ), sm) () < lvRcv i) :
    (levAts L lv : sProp 𝕄) ⊢ MayWait (c : Thread nD τ) sm () (oweCopies c l) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := oweCopies_pos hg; rw [L_tc]; exact Finset.mem_singleton_self _)
    (fun p hp => by rw [Finset.mem_singleton.mp hp])
    (fun g u hg => by
      obtain ⟨i, hi, rfl⟩ := oweCopies_pos hg
      rw [show u = () from rfl, lv_rcv]; exact hl i hi)

omit [FloatOps F] in
/-- The staging copies may be waited for at any time. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨n, rfl⟩ <;> exact Finset.mem_singleton_self _)
      (fun p hp => by rw [Finset.mem_singleton.mp hp]; dsimp only [lv]; rw [if_pos hq])
      (fun g u hg => by
        rcases O₀_pos hg with ⟨i, rfl⟩ | ⟨n, rfl⟩
        · rw [show u = () from rfl, lv_rcv]; unfold lvRcv; split <;> decide
        · exact Nat.one_pos)
  · rw [MayWait_zero]; iintro -; iempintro

end Cert.RingMatmul

end
-- ==== Proof.Steps.lean ====
/-
# One lemma for each kind of step the kernel takes

Starting a copy, waiting for one to have been read or to have landed, loading a window, storing into slot 0,
storing a block of the result: each is stated once, over the windows and cells of `Protocol`, for every index it
is used at.
-/
module

public import proofs.«01_k».proof.Proof.Protocol

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Dev nD → Vec F S512x2048 .bf16)

/-! ## What every device knows -/

/-- The invariants of all cells, under the names `K`, and that each has reached round 0: known to all devices. -/
def records (K : Dev nD × Kind → ℕ) : sProp 𝕄 :=
  iprop((bigSep Finset.univ fun ck : Dev nD × Kind => cellInv ER (Rd X) (K ck) (kcell ck))
    ∗ bigSep Finset.univ fun ck : Dev nD × Kind => reached ER (kcell ck) 0)

instance records_persistent (K : Dev nD × Kind → ℕ) : BI.Persistent (records X K) := by unfold records; infer_instance

variable (K : Dev nD × Kind → ℕ)

omit [FloatOps F] in
theorem inv_at (ck : Dev nD × Kind) : records X K ⊢ cellInv ER (Rd X) (K ck) (kcell ck) :=
  sep_elim_left.trans (bigSep_elim (Finset.mem_univ ck))
omit [FloatOps F] in
theorem reached_at (ck : Dev nD × Kind) : records X K ⊢ reached ER (kcell ck) 0 :=
  sep_elim_right.trans (bigSep_elim (Finset.mem_univ ck))

/-- Device `c` owes `O`, whatever it has waited for. -/
def owesSome (c : Dev nD) (O : CellTallies nD τ sig Unit) : sProp 𝕄 := iprop(∃ W, owes (c : Thread nD τ) O W)

/-! ## Copies -/

/-- A window is whole words of the buffer. -/
theorem win_words : ∀ (s : Fin 4) (h : Fin 2), (winRect s h).WholeWords (EltTy.packing .bf16) := by decide
theorem slab_exact (s : Fin 4) (h : Fin 2) : (slab s h).view.WordExact :=
  ((Memref.isWhole_whole cc0_scratch1).wordExact_slice rfl _ (win_words s h)).reshape _ _

/-- STARTING COPY `i`, the next device `c` has to start: it gives up the share of its source window until the send
    cell pays it back and the neighbour's window for good, and gets the credit to wait on its send cell. -/
theorem start_copy (i : Fin 6) (l : List (Fin 6)) (c n : Dev nD) (hn : n = toward i c)
    {α : Type} {Q : α → sProp 𝕄} {k : PUnit → Prog (TpuEff nD τ sig (Elt F) Λ₀ .tc) α} :
    iprop(records X K ∗ sndPay X i c ∗ hole i (toward i c)
        ∗ owesSome c (oweCopies c (i :: l)) ∗ dutyTok ER (sndCell i c) 0 false ∗ dutyTok ER (rcvCell i (toward i c)) 0 false)
      ⊢ iprop(((cred (tallyAt (sndCell i c) () N) ∗ owesSome c (oweCopies c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slab (srcSlot i) (halfOf i)) (.remote (Dev.tc n : Thread nD τ) (slab (dstSlot i) (halfOf i)) (.dma (sndS i)) rfl)
                (.dma (rcvS i)) (slab_exact _ _) (slab_exact _ _) ⟨⟨rfl, Or.inl rfl⟩, trivial⟩) k) Q) := by
  subst hn
  unfold sndPay hole owesSome winPts
  iintro ⟨#HR, Hs, ⟨%fd, Hd⟩, ⟨%W, HO⟩, HtS, HtR⟩ Hk
  iapply (Rounds.wp_send_pointsTo 𝒱₀ ER (Rd X) (c : Thread nD τ) none (κ₁ := K (c, kSnd i)) (κ₂ := K (toward i c, kRcv i))
    (c' := (toward i c : Thread nD τ)) (r₁ := 0) (r₂ := 0) (d₁ := false) (d₂ := false) (src := slab (srcSlot i) (halfOf i)) (dst := slab (dstSlot i) (halfOf i))
    (sS := .dma (sndS i)) (sem := .dma (rcvS i)) (q := shareOf i) (fs := gathered X c) (fd := fd)
    (by rw [duties_snd]; exact Finset.mem_singleton_self _) (by rw [duties_rcv]; exact Finset.mem_singleton_self _)
    () () N (credit_eq (dstSlot i) (halfOf i)) (amount_snd X i c false) (amount_rcv X i (toward i c) false) (oweCopies c l) rfl (W := W)
    (by rw [payload_snd, slab_set]; unfold sndPay winPts; exact BI.Entails.refl _)
    (by
      rw [payload_rcv, slab_set]; unfold rcvPay winPts
      exact Entails.of_eq (pointsTo_congr fun j hj => landed X c (toward i c) _ _ _ (origin_copy i c) fd j hj))) $$ [Hs Hd HO HtS HtR]
  · isplitr; · iapply (inv_at X K (c, kSnd i)); iexact HR
    isplitr; · iapply (inv_at X K (toward i c, kRcv i)); iexact HR
    isplitl [Hs]; · rw [slab_set]; iexact Hs
    isplitl [Hd]; · rw [slab_set]; iexact Hd
    isplitl [HO]; · iexact HO
    isplitl [HtS]; · iexact HtS
    isplitr; · iapply (reached_at X K (c, kSnd i)); iexact HR
    isplitl [HtR]; · iexact HtR
    iapply (reached_at X K (toward i c, kRcv i)); iexact HR
  iintro ⟨Hc, HO⟩
  iapply Hk
  isplitl [Hc]; · iexact Hc
  iexists W; iexact HO

/-- WAITING FOR COPY `i` TO LAND at `c`, with the copies of `l` still to be started: the window, filled; the cell is done
    with and its counter is zero. -/
theorem wait_landed (i : Fin 6) (l : List (Fin 6)) (c : Dev nD) (hl : ∀ j ∈ l, lvRcv i < lvRcv j)
    {α : Type} {Q : α → sProp 𝕄} {k : PUnit → Prog (TpuEff nD τ sig (Elt F) Λ₀ .tc) α} :
    iprop(records X K ∗ levAts L lv ∗ cred (tallyAt (rcvCell i c) () N) ∗ owesSome c (oweCopies c l) ∗ atPos ER (rcvCell i c) 0 ∅ 0)
      ⊢ iprop(((owesSome c (oweCopies c l) ∗ semVal (rcvCell i c) 0 ∗ rcvPay X i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS i) (slab (srcSlot i) (halfOf i)) (slab (dstSlot i) (halfOf i))
                (slab_exact _ _) (slab_exact _ _)) k) Q) := by
  unfold owesSome
  iintro ⟨#HR, #Hlev, Hc, ⟨%W, HO⟩, Hat⟩ Hk
  iapply (Rounds.wp_wait_rest_token 𝒱₀ ER (Rd X) (c : Thread nD τ) none (κ := K (c, kRcv i)) (wpE_waitDma2_eq 𝒱₀ (c : Thread nD τ) none Set.univ) (Set.mem_univ _) ()
      (O := oweCopies c l) (W := W) (R := 0) (m := 0) (T := ∅) (by rw [Nat.zero_add, expect_rcv])) $$ [Hc HO Hat]
  · isplitr; · iapply (inv_at X K (c, kRcv i)); iexact HR
    isplitl [Hc]; · iexact Hc
    isplitl [HO]; · iexact HO
    isplitr; · iapply (mayWait_copies (F := F) c (.dma (rcvS i)) l (fun j hj => by rw [lv_rcv]; exact hl j hj)); iexact Hlev
    iexact Hat
  iintro ⟨HO, Hat, -, Hpay⟩
  ihave Hw := (Entails.of_eq (rest_rcv X i c)) $$ Hpay
  imod (Rounds.cell_close ER (Rd X) (Set.mem_univ (K (c, kRcv i))) (fun h => h) (R := 0 + 1) (duties_later X (rcvCell i c))) $$ [Hat] with Hz
  · isplitr; · iapply (inv_at X K (c, kRcv i)); iexact HR
    iexact Hat
  iapply Hk
  isplitl [HO]; · iexists _; iexact HO
  isplitl [Hz]; · iexact Hz
  iexact Hw

/-- WAITING FOR COPY `i` TO HAVE BEEN READ, nothing being owed: the share of the source window is back; the cell is done
    with and its counter is zero. -/
theorem wait_read (i : Fin 6) (c : Dev nD)
    {α : Type} {Q : α → sProp 𝕄} {k : PUnit → Prog (TpuEff nD τ sig (Elt F) Λ₀ .tc) α} :
    iprop(records X K ∗ cred (tallyAt (sndCell i c) () N) ∗ owesSome c 0 ∗ atPos ER (sndCell i c) 0 ∅ 0)
      ⊢ iprop(((owesSome c 0 ∗ semVal (sndCell i c) 0 ∗ sndPay X i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS i) (slab (dstSlot i) (halfOf i)) (slab (srcSlot i) (halfOf i))
                (slab_exact _ _) (slab_exact _ _)) k) Q) := by
  unfold owesSome
  iintro ⟨#HR, Hc, ⟨%W, HO⟩, Hat⟩ Hk
  iapply (Rounds.wp_wait_rest_token 𝒱₀ ER (Rd X) (c : Thread nD τ) none (κ := K (c, kSnd i)) (wpE_waitDma2_eq 𝒱₀ (c : Thread nD τ) none Set.univ) (Set.mem_univ _) ()
      (O := 0) (W := W) (R := 0) (m := 0) (T := ∅) (by rw [Nat.zero_add, expect_snd])) $$ [Hc HO Hat]
  · isplitr; · iapply (inv_at X K (c, kSnd i)); iexact HR
    isplitl [Hc]; · iexact Hc
    isplitl [HO]; · iexact HO
    isplitr; · rw [MayWait_zero]; iempintro
    iexact Hat
  iintro ⟨HO, Hat, -, Hpay⟩
  ihave Hw := (Entails.of_eq (rest_snd X i c)) $$ Hpay
  imod (Rounds.cell_close ER (Rd X) (Set.mem_univ (K (c, kSnd i))) (fun h => h) (R := 0 + 1) (duties_later X (sndCell i c))) $$ [Hat] with Hz
  · isplitr; · iapply (inv_at X K (c, kSnd i)); iexact HR
    iexact Hat
  iapply Hk
  isplitl [HO]; · iexists _; iexact HO
  isplitl [Hz]; · iexact Hz
  iexact Hw

/-! ## The barrier -/

/-- SIGNALLING A NEIGHBOUR'S BARRIER, duty `d`: its payload is handed over. -/
theorem signal_bar (c n n' : Dev nD) (hn : n' = n) (d : Bool) (O : CellTallies nD τ sig Unit)
    {a : ℕ} (ha : a = 1)
    {α : Type} {Q : α → sProp 𝕄} {k : PUnit → Prog (TpuEff nD τ sig (Elt F) Λ₀ .tc) α} :
    iprop(records X K ∗ owesSome c (O + tallyAt (barCell n) () 1) ∗ dutyTok ER (barCell n) 0 d ∗ barPay n d)
      ⊢ iprop((owesSome c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS a) k) Q) := by
  subst hn ha
  unfold owesSome
  iintro ⟨#HR, ⟨%W, HO⟩, Ht, Hp⟩ Hk
  iapply (Rounds.wp_signal 𝒱₀ ER (Rd X) (c : Thread nD τ) none (dst := (n' : Thread nD τ)) (sem := barS) (κ := K (n', kBar))
      (d := d) (r := 0) (by rw [duties_bar]; exact Finset.mem_univ _) (amount_bar X n' d) () O rfl (W := W)) $$ [HO Ht Hp]
  · isplitr; · iapply (inv_at X K (n', kBar)); iexact HR
    isplitl [HO]; · iexact HO
    isplitl [Ht]; · iexact Ht
    isplitl [Hp]; · rw [payload_bar]; iexact Hp
    iapply (reached_at X K (n', kBar)); iexact HR
  iintro HO
  iapply Hk
  iexists W; iexact HO

/-- WAITING FOR BOTH NEIGHBOURS at the barrier, all copies still to be started: the neighbours' windows to copy into. -/
theorem wait_bar (c : Dev nD) {e : TpuEff nD τ sig (Elt F) Λ₀ .tc PUnit}
    (he : ∀ Kt : PUnit → sProp 𝕄, wpE (defs₀ (F := F)) 𝒱₀ (c : Thread nD τ) none Set.univ e Kt
      = waitSpec (c : Thread nD τ) Set.univ (.reg barS) 2 Kt)
    {α : Type} {Q : α → sProp 𝕄} {k : PUnit → Prog (TpuEff nD τ sig (Elt F) Λ₀ .tc) α} :
    iprop(records X K ∗ levAts L lv ∗ cred (tallyAt (barCell c) () 2) ∗ owesSome c (oweCopies c order) ∗ atPos ER (barCell c) 0 ∅ 0)
      ⊢ iprop(((owesSome c (oweCopies c order) ∗ semVal (barCell c) 0 ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op e k) Q) := by
  unfold owesSome
  iintro ⟨#HR, #Hlev, Hc, ⟨%W, HO⟩, Hat⟩ Hk
  iapply (Rounds.wp_wait_rest_token 𝒱₀ ER (Rd X) (c : Thread nD τ) none (κ := K (c, kBar)) he (Set.mem_univ _) ()
      (O := oweCopies c order) (W := W) (R := 0) (m := 0) (T := ∅) (by rw [Nat.zero_add, expect_bar])) $$ [Hc HO Hat]
  · isplitr; · iapply (inv_at X K (c, kBar)); iexact HR
    isplitl [Hc]; · iexact Hc
    isplitl [HO]; · iexact HO
    isplitr; · iapply (mayWait_copies (F := F) c (.reg barS) order (by show ∀ j ∈ order, 1 < lvRcv j; decide)); iexact Hlev
    iexact Hat
  iintro ⟨HO, Hat, -, Hpay⟩
  ihave Hw := (Entails.of_eq (rest_bar X c)) $$ Hpay
  icases Hw with ⟨Hf, Ht⟩
  imod (Rounds.cell_close ER (Rd X) (Set.mem_univ (K (c, kBar))) (fun h => h) (R := 0 + 1) (duties_later X (barCell c))) $$ [Hat] with Hz
  · isplitr; · iapply (inv_at X K (c, kBar)); iexact HR
    iexact Hat
  iapply Hk
  isplitl [HO]; · iexists _; iexact HO
  isplitl [Hz]; · iexact Hz
  isplitl [Hf] <;> iassumption

/-! ## Loads and stores -/

omit [FloatOps F] in
theorem setOn_gM (S : Finset S4x512x2048.Idx) : gM.view.setOn S = S := Finset.map_refl

/-- Slot 0's window after the store is what it is in the filled buffer. -/
theorem winPts_stored (c : Dev nD) (h : Fin 2) (f : Buf (Elt F) ((c : Thread nD τ).loc cc0_scratch1)) (v : S1x256x2048.Idx → Elt F .bf16)
    (hv : v = k0_pay1 (xM.view.readAt (Elt F) (xRect h).toLoadRect (X c))) :
    (((c : Thread nD τ).loc cc0_scratch1) ↦[win 0 h]{fullShare} ((gM.access (winRect 0 h)).write (Elt F) f v Finset.univ) : sProp 𝕄)
      ⊢ (((c : Thread nD τ).loc cc0_scratch1) ↦[win 0 h]{fullShare} gathered X c) := by
  subst hv
  exact Entails.of_eq (pointsTo_congr (stored X c h f))

/-- Filling slot 0: the window is loaded (the value is not used) and half `h` of the device's block of `x` stored there. -/
theorem fill_own (c : Dev nD) (h : Fin 2) {o : Fin 3 → ℕ} (ho : o = off 0 h) {inb inb' : ∀ a, o a + S1x256x2048.size a ≤ S4x512x2048.size a}
    {v : S1x256x2048.Idx → Elt F .bf16} (hv : v = k0_pay1 (xM.view.readAt (Elt F) (xRect h).toLoadRect (X c)))
    {hl : gM.view.LoadsAt (Rect.unit (s := S4x512x2048) o S1x256x2048.size inb).toLoadRect}
    {hx : (gM.access (Rect.unit (s := S4x512x2048) o S1x256x2048.size inb')).Stores Finset.univ} {hm}
    {f : Buf (Elt F) ((c : Thread nD τ).loc cc0_scratch1)}
    {α : Type} {Q : α → sProp 𝕄} {k : PUnit → Prog (TpuEff nD τ sig (Elt F) Λ₀ .tc) α} :
    winPts c 0 h fullShare f
      ⊢ iprop((winPts c 0 h fullShare (gathered X c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load gM (Rect.unit (s := S4x512x2048) o S1x256x2048.size inb).toLoadRect hl)
                fun _ => .op (.store gM (Rect.unit (s := S4x512x2048) o S1x256x2048.size inb') v Finset.univ hx hm) k) Q) := by
  subst ho
  iintro H Hk
  unfold winPts
  iapply (wp_load 𝒱₀ (c : Thread nD τ) none Set.univ (m := gM) (S := win 0 h) (by
    rw [setOn_gM])) $$ H
  iintro H
  iapply (wp_store 𝒱₀ (c : Thread nD τ) none Set.univ (m := gM) (r := winRect 0 h) (Mk := Finset.univ) (S := win 0 h) (by
    rw [View.setOn_univ, access_set])) $$ H
  iintro H
  iapply Hk
  iapply (winPts_stored X c h f v hv)
  iexact H

/-- Loading window `(s, h)` of the filled buffer, at any share: half `h` of the block of device `origin c s`. -/
theorem load_gathered (c : Dev nD) (s : Fin 4) (h : Fin 2) (q : PosShare TreeShare) {o : Fin 3 → ℕ} (ho : o = off s h)
    {inb : ∀ a, o a + S1x256x2048.size a ≤ S4x512x2048.size a}
    {hl : gM.view.LoadsAt (Rect.unit (s := S4x512x2048) o S1x256x2048.size inb).toLoadRect}
    {α : Type} {Q : α → sProp 𝕄} {k : (S1x256x2048.Idx → Elt F .bf16) → Prog (TpuEff nD τ sig (Elt F) Λ₀ .tc) α} :
    winPts c s h q (gathered X c)
      ⊢ iprop((winPts c s h q (gathered X c)
            -∗ wp frame (wpE (defs₀ (F := F)) 𝒱₀ (c : Thread nD τ) none) Set.univ (k (half (X (origin c s)) h)) Q)
          -∗ wp frame (wpE (defs₀ (F := F)) 𝒱₀ (c : Thread nD τ) none) Set.univ
              (.op (.load gM (Rect.unit (s := S4x512x2048) o S1x256x2048.size inb).toLoadRect hl) k) Q) := by
  subst ho
  rw [← load_win X c s h]
  unfold winPts
  exact wp_load 𝒱₀ (c : Thread nD τ) none Set.univ (m := gM) (S := win s h) (by
    rw [setOn_gM])

/-- The result's staging buffer, with the blocks of `T` computed. -/
def outHeld (w : Vec F S2048x512 .bf16) (c : Dev nD) (T : Finset (Dev nD × Fin 2)) : sProp 𝕄 :=
  iprop(∃ f : Buf (Elt F) ((c : Thread nD τ).loc cc0_stg2_0), ⌜Filled X w T f⌝ ∗ (((c : Thread nD τ).loc cc0_stg2_0) ↦{fullShare} f))

/-- Storing a block of the result: its rows are loaded (the value is not used) and the block stored there. -/
theorem store_block (w : Vec F S2048x512 .bf16) (c : Dev nD) (T : Finset (Dev nD × Fin 2)) (d : Dev nD) (h : Fin 2)
    {o : Fin 2 → ℕ} (ho : o = ![512 * d.val + 256 * h.val, 0]) {inb inb' : ∀ a, o a + S256x512.size a ≤ S2048x512.size a}
    {v : S256x512.Idx → Elt F .f32} (hv : v = outBlock X w d h)
    {hl : oM.view.LoadsAt (Rect.unit (s := S2048x512) o S256x512.size inb).toLoadRect}
    {hx : (oM.access (Rect.unit (s := S2048x512) o S256x512.size inb')).Stores Finset.univ} {hm}
    {α : Type} {Q : α → sProp 𝕄} {k : PUnit → Prog (TpuEff nD τ sig (Elt F) Λ₀ .tc) α} :
    outHeld X w c T
      ⊢ iprop((outHeld X w c (insert (d, h) T) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S2048x512) o S256x512.size inb).toLoadRect hl)
                fun _ => .op (.store oM (Rect.unit (s := S2048x512) o S256x512.size inb') v Finset.univ hx hm) k) Q) := by
  subst hv
  unfold outHeld
  iintro ⟨%f, %hf, H⟩ Hk
  iapply (wp_load 𝒱₀ (c : Thread nD τ) none Set.univ (m := oM) (Finset.subset_univ _)) $$ H
  iintro H
  iapply (wp_store 𝒱₀ (c : Thread nD τ) none Set.univ (m := oM) (r := Rect.unit (s := S2048x512) o S256x512.size inb') (Mk := Finset.univ)
    (Finset.subset_univ _)) $$ H
  iintro H
  iapply Hk
  iexists _
  isplitr
  · ipureintro; exact filled_store X w hf d h o ho inb'
  iexact H

/-- The rounded columns of `w` in their scratch buffer are the columns themselves. -/
theorem pay3_eq (v : Vec F S2048x512 .bf16) : k0_pay3 v = v := by
  unfold k0_pay3; simp only [shapeCast_self]

end Cert.RingMatmul

end
-- ==== Proof.Handover.lean ====
/-
# Splitting the gather buffer and putting it together again

At the start a device keeps slot 0's windows and hands the other six to its neighbours through their barriers. Slot 0's
windows, and the two windows it passes on, are read by copies while the device itself reads them: each is split into a
share per reader. At the end the eight windows are the whole buffer again.
-/
module

public import proofs.«01_k».proof.Proof.Steps

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x2048 .bf16) (c : Dev nD)

omit [FloatOps F] in
/-- The gather buffer is its eight windows. -/
theorem windows_eq (f : Buf (Elt F) ((c : Thread nD τ).loc cc0_scratch1)) :
    (((c : Thread nD τ).loc cc0_scratch1) ↦{fullShare} f : sProp 𝕄)
      = iprop(winPts c 0 0 fullShare f ∗ winPts c 0 1 fullShare f ∗ winPts c 1 0 fullShare f ∗ winPts c 1 1 fullShare f
          ∗ winPts c 2 0 fullShare f ∗ winPts c 2 1 fullShare f ∗ winPts c 3 0 fullShare f ∗ winPts c 3 1 fullShare f) := by
  rw [Ring.pointsTo_blocks (ℓ := (c : Thread nD τ).loc cc0_scratch1) (fun p : Fin 4 × Fin 2 => win p.1 p.2) win_disjoint
      (Finset.eq_univ_iff_forall.mpr fun i => by
        obtain ⟨p, hp⟩ := win_cover i
        exact Finset.mem_biUnion.mpr ⟨p, Finset.mem_univ _, hp⟩) f,
    bigSep_univ_eq_bigSepL [(0, 0), (0, 1), (1, 0), (1, 1), (2, 0), (2, 1), (3, 0), (3, 1)] (by decide) (by decide)]
  rfl

omit [FloatOps F] in
/-- A window not yet written may be handed over for copy `i`. -/
theorem hole_intro (i : Fin 6) (f : Buf (Elt F) ((c : Thread nD τ).loc cc0_scratch1)) :
    winPts c (dstSlot i) (halfOf i) fullShare f ⊢ (hole i c : sProp 𝕄) := by
  unfold hole; iintro H; iexists f; iexact H

omit [FloatOps F] in
/-- AT THE START: slot 0's windows stay, the others make the payments to both neighbours' barriers. -/
theorem hand_over (f : Buf (Elt F) ((c : Thread nD τ).loc cc0_scratch1)) :
    (((c : Thread nD τ).loc cc0_scratch1) ↦{fullShare} f : sProp 𝕄)
      ⊢ iprop(winPts c 0 0 fullShare f ∗ winPts c 0 1 fullShare f ∗ barPay (lft c) true ∗ barPay (rgt c) false) := by
  rw [windows_eq, show barPay (F := F) (lft c) true = iprop(hole (F := F) 3 (rgt (lft c)) ∗ hole 4 (rgt (lft c)) ∗ hole 5 (rgt (lft c))) from rfl,
    show barPay (F := F) (rgt c) false = iprop(hole (F := F) 0 (lft (rgt c)) ∗ hole 1 (lft (rgt c)) ∗ hole 2 (lft (rgt c))) from rfl,
    rgt_lft, lft_rgt]
  iintro ⟨H00, H01, H10, H11, H20, H21, H30, H31⟩
  isplitl [H00]; · iexact H00
  isplitl [H01]; · iexact H01
  isplitl [H11 H10 H31]
  · isplitl [H11]; · iapply (hole_intro (F := F) c 3 f); iexact H11
    isplitl [H10]; · iapply (hole_intro (F := F) c 4 f); iexact H10
    iapply (hole_intro (F := F) c 5 f); iexact H31
  · isplitl [H20]; · iapply (hole_intro (F := F) c 0 f); iexact H20
    isplitl [H21]; · iapply (hole_intro (F := F) c 1 f); iexact H21
    iapply (hole_intro (F := F) c 2 f); iexact H30

omit [FloatOps F] in
/-- What the barrier pays is a window at the neighbour for each of the six copies. -/
theorem taken_over : iprop(barPay (F := F) c false ∗ barPay c true)
    ⊢ iprop(hole (F := F) 0 (toward 0 c) ∗ hole 1 (toward 1 c) ∗ hole 2 (toward 2 c)
        ∗ hole 3 (toward 3 c) ∗ hole 4 (toward 4 c) ∗ hole 5 (toward 5 c)) := by
  rw [show barPay (F := F) c true = iprop(hole (F := F) 3 (toward 3 c) ∗ hole 4 (toward 4 c) ∗ hole 5 (toward 5 c)) from rfl,
    show barPay (F := F) c false = iprop(hole (F := F) 0 (toward 0 c) ∗ hole 1 (toward 1 c) ∗ hole 2 (toward 2 c)) from rfl]
  iintro ⟨⟨H0, H1, H2⟩, H3, H4, H5⟩
  isplitl [H0]; · iexact H0
  isplitl [H1]; · iexact H1
  isplitl [H2]; · iexact H2
  isplitl [H3]; · iexact H3
  isplitl [H4] <;> iassumption

/-- The share of slot 0's windows the device keeps for its own loads, -/
abbrev keep₀ : PosShare TreeShare := (PosShare.right fullShare).right
/-- and of the windows it passes on. -/
abbrev keep₁ : PosShare TreeShare := PosShare.right fullShare

omit [FloatOps F] in
theorem split_two (s : Fin 4) (h : Fin 2) (f : Buf (Elt F) ((c : Thread nD τ).loc cc0_scratch1)) :
    (winPts c s h fullShare f : sProp 𝕄) ⊣⊢ iprop(winPts c s h (PosShare.left fullShare) f ∗ winPts c s h keep₁ f) :=
  pointsTo_share (PosShare.mem_left_op_right fullShare)

omit [FloatOps F] in
theorem split_keep (s : Fin 4) (h : Fin 2) (f : Buf (Elt F) ((c : Thread nD τ).loc cc0_scratch1)) :
    (winPts c s h keep₁ f : sProp 𝕄) ⊣⊢ iprop(winPts c s h (PosShare.left keep₁) f ∗ winPts c s h keep₀ f) :=
  pointsTo_share (PosShare.mem_left_op_right keep₁)

omit [FloatOps F] in
/-- What copy `k` has brought is its window, filled. -/
theorem rcvPay_eq (k : Fin 6) (s : Fin 4) (h : Fin 2) (hs : dstSlot k = s) (hh : halfOf k = h) :
    (rcvPay X k c : sProp 𝕄) = winPts c s h fullShare (gathered X c) := by
  subst hs hh; rfl

omit [FloatOps F] in
/-- A window brought by copy `k` and passed on by copy `i`: that copy's share and the device's. -/
theorem share_one (k i : Fin 6) (s : Fin 4) (h : Fin 2) (hi : shareOf i = PosShare.left fullShare)
    (hs : dstSlot k = s) (hh : halfOf k = h) (hsi : srcSlot i = s) (hhi : halfOf i = h) :
    (rcvPay X k c : sProp 𝕄) ⊣⊢ iprop(sndPay X i c ∗ winPts c s h keep₁ (gathered X c)) := by
  rw [rcvPay_eq X c k s h hs hh]
  unfold sndPay; rw [hi, hsi, hhi]; exact split_two c _ _ _

omit [FloatOps F] in
/-- A window read by two copies: a share for each and the device's. -/
theorem share_both (i j : Fin 6) (s : Fin 4) (h : Fin 2) (hi : shareOf i = PosShare.left fullShare) (hj : shareOf j = PosShare.left keep₁)
    (hsi : srcSlot i = s) (hhi : halfOf i = h) (hsj : srcSlot j = s) (hhj : halfOf j = h) :
    (winPts c s h fullShare (gathered X c) : sProp 𝕄)
      ⊣⊢ iprop(sndPay X i c ∗ sndPay X j c ∗ winPts c s h keep₀ (gathered X c)) := by
  unfold sndPay; rw [hi, hj, hsi, hhi, hsj, hhj]
  constructor
  · iintro H
    ihave H' := (split_two c s h (gathered X c)).1 $$ H
    icases H' with ⟨Hl, Hr⟩
    ihave Hr' := (split_keep c s h (gathered X c)).1 $$ Hr
    icases Hr' with ⟨Hl', Hr⟩
    isplitl [Hl]; · iexact Hl
    isplitl [Hl'] <;> iassumption
  · iintro ⟨Hl, Hl', Hr⟩
    iapply (split_two c s h (gathered X c)).2
    isplitl [Hl]; · iexact Hl
    iapply (split_keep c s h (gathered X c)).2
    isplitl [Hl'] <;> iassumption

end Cert.RingMatmul

end
-- ==== Proof.Body.lean ====
/-
# The body, once, at a symbolic device

`sound_body`: from what a device holds when the kernel starts, the body runs effect by effect, each by its lemma of
`Steps`, to what it holds at the end: the result's staging buffer contains `outOf`, every semaphore is back at zero.
-/
module

public import proofs.«01_k».proof.Proof.Handover

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x2048 .bf16) (K : Dev nD × Kind → ℕ)

/-! ## What a device brings to the body and takes from it -/

/-- The tokens with which it pays the cells of others and its own send cells. -/
def payToks (c : Dev nD) : sProp 𝕄 :=
  iprop(dutyTok ER (barCell (lft c)) 0 true ∗ dutyTok ER (barCell (rgt c)) 0 false
    ∗ (bigSep Finset.univ fun i => dutyTok ER (sndCell i c) 0 false)
    ∗ bigSep Finset.univ fun i => dutyTok ER (rcvCell i (toward i c)) 0 false)

/-- Its cells, at the start. -/
def cellPos (c : Dev nD) : sProp 𝕄 :=
  iprop(atPos ER (barCell c) 0 ∅ 0 ∗ (bigSep Finset.univ fun i => atPos ER (sndCell i c) 0 ∅ 0)
    ∗ bigSep Finset.univ fun i => atPos ER (rcvCell i c) 0 ∅ 0)

/-- The credits for what the others will bring to its cells. -/
def creds (c : Dev nD) : sProp 𝕄 :=
  iprop(cred (tallyAt (barCell c) () 2) ∗ bigSep Finset.univ fun i => cred (tallyAt (rcvCell i c) () N))

/-- Its cells, at the end: counters at zero. -/
def zeros (c : Dev nD) : sProp 𝕄 :=
  iprop(semVal (barCell c) 0 ∗ (bigSep Finset.univ fun i => semVal (sndCell i c) 0) ∗ bigSep Finset.univ fun i => semVal (rcvCell i c) 0)

/-- Its two scratch buffers, with any contents. -/
def scratch (c : Dev nD) : sProp 𝕄 :=
  iprop((∃ f, (((c : Thread nD τ).loc cc0_scratch0) ↦{fullShare} f)) ∗ ∃ f, (((c : Thread nD τ).loc cc0_scratch1) ↦{fullShare} f))

def pre (w : Vec F S2048x512 .bf16) (c : Dev nD) : sProp 𝕄 :=
  iprop(records X K ∗ levAts L lv ∗ cellPos c ∗ payToks c ∗ creds c ∗ scratch c ∗ owesSome c (O₀ c)
    ∗ (((c : Thread nD τ).loc cc0_stg0_0) ↦{fullShare} X c) ∗ (((c : Thread nD τ).loc cc0_stg1_0) ↦{fullShare} w)
    ∗ ∃ f, (((c : Thread nD τ).loc cc0_stg2_0) ↦{fullShare} f))

def post (w : Vec F S2048x512 .bf16) (c : Dev nD) : sProp 𝕄 :=
  iprop(zeros c ∗ scratch c ∗ owesSome c 0
    ∗ (((c : Thread nD τ).loc cc0_stg0_0) ↦{fullShare} X c) ∗ (((c : Thread nD τ).loc cc0_stg1_0) ↦{fullShare} w)
    ∗ (((c : Thread nD τ).loc cc0_stg2_0) ↦{fullShare} (outOf X w : Buf (Elt F) ((c : Thread nD τ).loc cc0_stg2_0))))

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## Whole buffers read and written -/

abbrev wRect : Rect S2048x512 := Rect.unit (s := S2048x512) ![0, 0] S2048x512.size inb_S2048x512_S2048x512_0_0

theorem zero_off : (![0, 0] : Fin 2 → ℕ) = fun _ => 0 := funext fun a => by fin_cases a <;> rfl

omit [FloatOps F] in
theorem read_w (f : (cc0_stg1_0 : Ref sig .tc).ty.Contents (Elt F)) : wM.view.readAt (Elt F) wRect.toLoadRect f = f :=
  Memref.readAt_unit_zero (Elt F) cc0_stg1_0 zero_off _ f
omit [FloatOps F] in
theorem read_wb (f : (cc0_scratch0 : Ref sig .tc).ty.Contents (Elt F)) : wbM.view.readAt (Elt F) wRect.toLoadRect f = f :=
  Memref.readAt_unit_zero (Elt F) cc0_scratch0 zero_off _ f
omit [FloatOps F] in
theorem write_wb (f v : (cc0_scratch0 : Ref sig .tc).ty.Contents (Elt F)) :
    (wbM.access wRect : View sig .tc _ _ _).write (Elt F) f v Finset.univ = v :=
  Memref.write_access_unit_zero_univ (Elt F) cc0_scratch0 zero_off _ f v

variable (w : Vec F S2048x512 .bf16) (c : Dev nD)

/-- Loading the rounded columns of `w`. -/
theorem load_wb {hl : wbM.view.LoadsAt wRect.toLoadRect} {α : Type} {Q : α → sProp 𝕄}
    {k : (S2048x512.Idx → Elt F .bf16) → Prog (TpuEff nD τ sig (Elt F) Λ₀ .tc) α} :
    (((c : Thread nD τ).loc cc0_scratch0) ↦{fullShare} w : sProp 𝕄)
      ⊢ iprop(((((c : Thread nD τ).loc cc0_scratch0) ↦{fullShare} w)
            -∗ wp frame (wpE (defs₀ (F := F)) 𝒱₀ (c : Thread nD τ) none) Set.univ (k w) Q)
          -∗ wp frame (wpE (defs₀ (F := F)) 𝒱₀ (c : Thread nD τ) none) Set.univ (.op (.load wbM wRect.toLoadRect hl) k) Q) := by
  iintro H Hk
  iapply (wp_load 𝒱₀ (c : Thread nD τ) none Set.univ (m := wbM) (Finset.subset_univ _)) $$ H
  iintro H
  rw [read_wb]
  iapply Hk; iexact H

/-- Rounding the columns of `w` into their scratch buffer. -/
theorem round_w {hl : wM.view.LoadsAt wRect.toLoadRect} {hl' : wbM.view.LoadsAt wRect.toLoadRect}
    {hx : (wbM.access wRect).Stores Finset.univ} {hm} {f : Buf (Elt F) ((c : Thread nD τ).loc cc0_scratch0)}
    {α : Type} {Q : α → sProp 𝕄} {k : PUnit → Prog (TpuEff nD τ sig (Elt F) Λ₀ .tc) α} :
    iprop((((c : Thread nD τ).loc cc0_stg1_0) ↦{fullShare} w) ∗ (((c : Thread nD τ).loc cc0_scratch0) ↦{fullShare} f))
      ⊢ iprop((((((c : Thread nD τ).loc cc0_stg1_0) ↦{fullShare} w) ∗ (((c : Thread nD τ).loc cc0_scratch0) ↦{fullShare} w))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load wM wRect.toLoadRect hl) fun v => .op (.load wbM wRect.toLoadRect hl')
                fun _ => .op (.store wbM wRect (k0_pay3 v) Finset.univ hx hm) k) Q) := by
  iintro ⟨Hw, Hb⟩ Hk
  iapply (wp_load 𝒱₀ (c : Thread nD τ) none Set.univ (m := wM) (Finset.subset_univ _)) $$ Hw
  iintro Hw
  iapply (wp_load 𝒱₀ (c : Thread nD τ) none Set.univ (m := wbM) (Finset.subset_univ _)) $$ Hb
  iintro Hb
  iapply (wp_store 𝒱₀ (c : Thread nD τ) none Set.univ (m := wbM) (r := wRect) (Mk := Finset.univ) (Finset.subset_univ _)) $$ Hb
  iintro Hb
  rw [write_wb, read_w, pay3_eq]
  iapply Hk
  isplitl [Hw] <;> iassumption

/-! ## The run -/

/-- The eight blocks in the order they are stored. -/
abbrev allBlocks (c : Dev nD) : Finset (Dev nD × Fin 2) :=
  insert (opp c, 1) (insert (opp c, 0) (insert (lft c, 0) (insert (rgt c, 1) (insert (lft c, 1) (insert (rgt c, 0)
    (insert (c, 1) (insert (c, 0) ∅)))))))

theorem allBlocks_eq (c : Dev nD) : allBlocks c = Finset.univ := by revert c; decide

/-- At the start no block is computed, -/
theorem out_start : iprop(∃ f, (((c : Thread nD τ).loc cc0_stg2_0) ↦{fullShare} f)) ⊢ (outHeld X w c ∅ : sProp 𝕄) := by
  unfold outHeld
  iintro ⟨%f, H⟩
  iexists f
  isplitr; · ipureintro; exact filled_empty X w f
  iexact H

/-- and when all are, the staging buffer contains the result. -/
theorem out_done {T : Finset (Dev nD × Fin 2)} (hT : T = Finset.univ) :
    (outHeld X w c T : sProp 𝕄)
      ⊢ (((c : Thread nD τ).loc cc0_stg2_0) ↦{fullShare} (outOf X w : Buf (Elt F) ((c : Thread nD τ).loc cc0_stg2_0))) := by
  unfold outHeld
  iintro ⟨%f, %hf, H⟩
  have e := filled_all X w hf hT
  subst e
  iexact H

set_option maxHeartbeats 1600000 in
/-- THE BODY: from `pre` it runs to `post`. -/
theorem sound_body (Kt : PUnit → sProp 𝕄) :
    iprop(pre X K w c ∗ (post X w c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold pre cellPos payToks creds scratch
  simp only [bigSep_fin6]
  iintro ⟨⟨#HR, #Hlev, ⟨HaB, ⟨HaS0, HaS1, HaS2, HaS3, HaS4, HaS5⟩, HaR0, HaR1, HaR2, HaR3, HaR4, HaR5⟩,
    ⟨HtL, HtR, ⟨HtS0, HtS1, HtS2, HtS3, HtS4, HtS5⟩, HtR0, HtR1, HtR2, HtR3, HtR4, HtR5⟩,
    ⟨HcB, HcR0, HcR1, HcR2, HcR3, HcR4, HcR5⟩, ⟨⟨%fb, Hb⟩, %fg, Hg⟩, HO, Hx, Hw, %fo, Ho⟩, Hk⟩
  ihave Hg' := (hand_over (F := F) c fg) $$ Hg
  icases Hg' with ⟨Hg00, Hg01, HpL, HpR⟩
  -- the barrier
  iapply (signal_bar X K c (lft c) _ (Fin.ext (k0_dev1_eq c)) true (O₁ c) (by decide)) $$ [HO HtL HpL]
  · isplitr; · iexact HR
    isplitl [HO]; · iexact HO
    isplitl [HtL] <;> iassumption
  iintro HO
  iapply (signal_bar X K c (rgt c) _ (Fin.ext (k0_dev2_eq c)) false (oweCopies c order) (by decide)) $$ [HO HtR HpR]
  · isplitr; · iexact HR
    isplitl [HO]; · iexact HO
    isplitl [HtR] <;> iassumption
  iintro HO
  iapply (wait_bar X K c (wpE_semWait_eq 𝒱₀ (c : Thread nD τ) none Set.univ)) $$ [HcB HO HaB]
  · isplitr; · iexact HR
    isplitr; · iexact Hlev
    isplitl [HcB]; · iexact HcB
    isplitl [HO] <;> iassumption
  iintro ⟨HO, HzB, Hp⟩
  ihave Hp' := (taken_over (F := F) c) $$ Hp
  icases Hp' with ⟨Hh0, Hh1, Hh2, Hh3, Hh4, Hh5⟩
  -- slot 0, upper rows; the first copy each way
  iapply (wp_load 𝒱₀ (c : Thread nD τ) none Set.univ (m := xM) (Finset.subset_univ _)) $$ Hx; iintro Hx
  iapply (fill_own X c 0 rfl rfl) $$ Hg00; iintro Hg00
  ihave H00 := (share_both X c 0 4 0 0 rfl rfl rfl rfl rfl rfl).1 $$ Hg00
  icases H00 with ⟨Hs0, Hs4, Hg00⟩
  iapply (start_copy X K 0 [4, 1, 3, 2, 5] c ⟨k0_dev3 c, k0_dev3_lt c⟩ (Fin.ext (k0_dev3_eq c))) $$ [Hs0 Hh0 HO HtS0 HtR0]
  · isplitr; · iexact HR
    isplitl [Hs0]; · iexact Hs0
    isplitl [Hh0]; · iexact Hh0
    isplitl [HO]; · iexact HO
    isplitl [HtS0] <;> iassumption
  iintro ⟨HcS0, HO⟩
  iapply (start_copy X K 4 [1, 3, 2, 5] c ⟨k0_dev4 c, k0_dev4_lt c⟩ (Fin.ext (k0_dev4_eq c))) $$ [Hs4 Hh4 HO HtS4 HtR4]
  · isplitr; · iexact HR
    isplitl [Hs4]; · iexact Hs4
    isplitl [Hh4]; · iexact Hh4
    isplitl [HO]; · iexact HO
    isplitl [HtS4] <;> iassumption
  iintro ⟨HcS4, HO⟩
  -- slot 0, lower rows; the second copy each way
  iapply (wp_load 𝒱₀ (c : Thread nD τ) none Set.univ (m := xM) (Finset.subset_univ _)) $$ Hx; iintro Hx
  iapply (fill_own X c 1 rfl rfl) $$ Hg01; iintro Hg01
  ihave H01 := (share_both X c 1 3 0 1 rfl rfl rfl rfl rfl rfl).1 $$ Hg01
  icases H01 with ⟨Hs1, Hs3, Hg01⟩
  iapply (start_copy X K 1 [3, 2, 5] c ⟨k0_dev5 c, k0_dev5_lt c⟩ (Fin.ext (k0_dev5_eq c))) $$ [Hs1 Hh1 HO HtS1 HtR1]
  · isplitr; · iexact HR
    isplitl [Hs1]; · iexact Hs1
    isplitl [Hh1]; · iexact Hh1
    isplitl [HO]; · iexact HO
    isplitl [HtS1] <;> iassumption
  iintro ⟨HcS1, HO⟩
  iapply (start_copy X K 3 [2, 5] c ⟨k0_dev6 c, k0_dev6_lt c⟩ (Fin.ext (k0_dev6_eq c))) $$ [Hs3 Hh3 HO HtS3 HtR3]
  · isplitr; · iexact HR
    isplitl [Hs3]; · iexact Hs3
    isplitl [Hh3]; · iexact Hh3
    isplitl [HO]; · iexact HO
    isplitl [HtS3] <;> iassumption
  iintro ⟨HcS3, HO⟩
  -- the device's own block
  iapply (round_w w c) $$ [Hw Hb]
  · isplitl [Hw] <;> iassumption
  iintro ⟨Hw, Hb⟩
  ihave Ho := (out_start X w c) $$ [Ho]
  · iexists fo; iexact Ho
  iapply (load_gathered X c 0 0 keep₀ rfl) $$ Hg00; iintro Hg00
  iapply (load_wb w c) $$ Hb; iintro Hb
  iapply (store_block X w c _ c 0 (k0_off1_eq c 0) rfl) $$ Ho; iintro Ho
  iapply (load_gathered X c 0 1 keep₀ rfl) $$ Hg01; iintro Hg01
  iapply (load_wb w c) $$ Hb; iintro Hb
  iapply (store_block X w c _ c 1 (k0_off1_eq c 1) rfl) $$ Ho; iintro Ho
  -- the neighbours' blocks, each passed on by half
  iapply (wait_landed X K 0 [2, 5] c (by decide)) $$ [HcR0 HO HaR0]
  · isplitr; · iexact HR
    isplitr; · iexact Hlev
    isplitl [HcR0]; · iexact HcR0
    isplitl [HO] <;> iassumption
  iintro ⟨HO, HzR0, Hg20⟩
  ihave H20 := (share_one X c 0 2 2 0 rfl rfl rfl rfl rfl).1 $$ Hg20
  icases H20 with ⟨Hs2, Hg20⟩
  iapply (start_copy X K 2 [5] c ⟨k0_dev7 c, k0_dev7_lt c⟩ (Fin.ext (k0_dev7_eq c))) $$ [Hs2 Hh2 HO HtS2 HtR2]
  · isplitr; · iexact HR
    isplitl [Hs2]; · iexact Hs2
    isplitl [Hh2]; · iexact Hh2
    isplitl [HO]; · iexact HO
    isplitl [HtS2] <;> iassumption
  iintro ⟨HcS2, HO⟩
  iapply (wait_landed X K 3 [5] c (by decide)) $$ [HcR3 HO HaR3]
  · isplitr; · iexact HR
    isplitr; · iexact Hlev
    isplitl [HcR3]; · iexact HcR3
    isplitl [HO] <;> iassumption
  iintro ⟨HO, HzR3, Hg11⟩
  ihave H11 := (share_one X c 3 5 1 1 rfl rfl rfl rfl rfl).1 $$ Hg11
  icases H11 with ⟨Hs5, Hg11⟩
  iapply (start_copy X K 5 [] c ⟨k0_dev8 c, k0_dev8_lt c⟩ (Fin.ext (k0_dev8_eq c))) $$ [Hs5 Hh5 HO HtS5 HtR5]
  · isplitr; · iexact HR
    isplitl [Hs5]; · iexact Hs5
    isplitl [Hh5]; · iexact Hh5
    isplitl [HO]; · iexact HO
    isplitl [HtS5] <;> iassumption
  iintro ⟨HcS5, HO⟩
  iapply (load_gathered X c 2 0 keep₁ rfl) $$ Hg20; iintro Hg20
  iapply (load_wb w c) $$ Hb; iintro Hb
  iapply (store_block X w c _ (rgt c) 0 (k0_off2_eq c 0 0) rfl) $$ Ho; iintro Ho
  iapply (load_gathered X c 1 1 keep₁ rfl) $$ Hg11; iintro Hg11
  iapply (load_wb w c) $$ Hb; iintro Hb
  iapply (store_block X w c _ (lft c) 1 (k0_off3_eq c 1) rfl) $$ Ho; iintro Ho
  -- their other halves
  iapply (wait_landed X K 1 [] c (by decide)) $$ [HcR1 HO HaR1]
  · isplitr; · iexact HR
    isplitr; · iexact Hlev
    isplitl [HcR1]; · iexact HcR1
    isplitl [HO] <;> iassumption
  iintro ⟨HO, HzR1, Hg⟩
  ihave Hg21 := (Entails.of_eq (rcvPay_eq X c 1 2 1 rfl rfl)) $$ Hg
  iapply (wait_landed X K 4 [] c (by decide)) $$ [HcR4 HO HaR4]
  · isplitr; · iexact HR
    isplitr; · iexact Hlev
    isplitl [HcR4]; · iexact HcR4
    isplitl [HO] <;> iassumption
  iintro ⟨HO, HzR4, Hg⟩
  ihave Hg10 := (Entails.of_eq (rcvPay_eq X c 4 1 0 rfl rfl)) $$ Hg
  iapply (load_gathered X c 2 1 fullShare rfl) $$ Hg21; iintro Hg21
  iapply (load_wb w c) $$ Hb; iintro Hb
  iapply (store_block X w c _ (rgt c) 1 (k0_off2_eq c 0 1) rfl) $$ Ho; iintro Ho
  iapply (load_gathered X c 1 0 fullShare rfl) $$ Hg10; iintro Hg10
  iapply (load_wb w c) $$ Hb; iintro Hb
  iapply (store_block X w c _ (lft c) 0 (k0_off3_eq c 0) rfl) $$ Ho; iintro Ho
  -- the opposite device's block
  iapply (wait_landed X K 2 [] c (by decide)) $$ [HcR2 HO HaR2]
  · isplitr; · iexact HR
    isplitr; · iexact Hlev
    isplitl [HcR2]; · iexact HcR2
    isplitl [HO] <;> iassumption
  iintro ⟨HO, HzR2, Hg⟩
  ihave Hg30 := (Entails.of_eq (rcvPay_eq X c 2 3 0 rfl rfl)) $$ Hg
  iapply (load_gathered X c 3 0 fullShare rfl) $$ Hg30; iintro Hg30
  iapply (load_wb w c) $$ Hb; iintro Hb
  iapply (store_block X w c _ (opp c) 0 (k0_off2_eq c 1 0) rfl) $$ Ho; iintro Ho
  iapply (wait_landed X K 5 [] c (by decide)) $$ [HcR5 HO HaR5]
  · isplitr; · iexact HR
    isplitr; · iexact Hlev
    isplitl [HcR5]; · iexact HcR5
    isplitl [HO] <;> iassumption
  iintro ⟨HO, HzR5, Hg⟩
  ihave Hg31 := (Entails.of_eq (rcvPay_eq X c 5 3 1 rfl rfl)) $$ Hg
  iapply (load_gathered X c 3 1 fullShare rfl) $$ Hg31; iintro Hg31
  iapply (load_wb w c) $$ Hb; iintro Hb
  iapply (store_block X w c _ (opp c) 1 (k0_off2_eq c 1 1) rfl) $$ Ho; iintro Ho
  -- all copies have been read
  unfold oweCopies
  iapply (wait_read X K 0 c) $$ [HcS0 HO HaS0]
  · isplitr; · iexact HR
    isplitl [HcS0]; · iexact HcS0
    isplitl [HO] <;> iassumption
  iintro ⟨HO, HzS0, Hs0⟩
  iapply (wait_read X K 1 c) $$ [HcS1 HO HaS1]
  · isplitr; · iexact HR
    isplitl [HcS1]; · iexact HcS1
    isplitl [HO] <;> iassumption
  iintro ⟨HO, HzS1, Hs1⟩
  iapply (wait_read X K 4 c) $$ [HcS4 HO HaS4]
  · isplitr; · iexact HR
    isplitl [HcS4]; · iexact HcS4
    isplitl [HO] <;> iassumption
  iintro ⟨HO, HzS4, Hs4⟩
  iapply (wait_read X K 3 c) $$ [HcS3 HO HaS3]
  · isplitr; · iexact HR
    isplitl [HcS3]; · iexact HcS3
    isplitl [HO] <;> iassumption
  iintro ⟨HO, HzS3, Hs3⟩
  iapply (wait_read X K 2 c) $$ [HcS2 HO HaS2]
  · isplitr; · iexact HR
    isplitl [HcS2]; · iexact HcS2
    isplitl [HO] <;> iassumption
  iintro ⟨HO, HzS2, Hs2⟩
  iapply (wait_read X K 5 c) $$ [HcS5 HO HaS5]
  · isplitr; · iexact HR
    isplitl [HcS5]; · iexact HcS5
    isplitl [HO] <;> iassumption
  iintro ⟨HO, HzS5, Hs5⟩
  -- at the end
  rw [wp_ret]; imodintro
  iapply Hk
  ihave Ho := (out_done X w c (allBlocks_eq c)) $$ Ho
  unfold post zeros scratch
  simp only [bigSep_fin6]
  isplitl [HzB HzS0 HzS1 HzS2 HzS3 HzS4 HzS5 HzR0 HzR1 HzR2 HzR3 HzR4 HzR5]
  · isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    · isplitl [HzR0]; · iexact HzR0
      isplitl [HzR1]; · iexact HzR1
      isplitl [HzR2]; · iexact HzR2
      isplitl [HzR3]; · iexact HzR3
      isplitl [HzR4] <;> iassumption
  isplitl [Hb Hg00 Hg01 Hg10 Hg11 Hg20 Hg21 Hg30 Hg31 Hs0 Hs1 Hs2 Hs3 Hs4 Hs5]
  · isplitl [Hb]; · iexists w; iexact Hb
    iexists gathered X c
    rw [windows_eq]
    isplitl [Hg00 Hs0 Hs4]
    · iapply (share_both X c 0 4 0 0 rfl rfl rfl rfl rfl rfl).2
      isplitl [Hs0]; · iexact Hs0
      isplitl [Hs4] <;> iassumption
    isplitl [Hg01 Hs1 Hs3]
    · iapply (share_both X c 1 3 0 1 rfl rfl rfl rfl rfl rfl).2
      isplitl [Hs1]; · iexact Hs1
      isplitl [Hs3] <;> iassumption
    isplitl [Hg10]; · iexact Hg10
    isplitl [Hg11 Hs5]
    · rw [← rcvPay_eq X c 3 1 1 rfl rfl]
      iapply (share_one X c 3 5 1 1 rfl rfl rfl rfl rfl).2
      isplitl [Hs5] <;> iassumption
    isplitl [Hg20 Hs2]
    · rw [← rcvPay_eq X c 0 2 0 rfl rfl]
      iapply (share_one X c 0 2 2 0 rfl rfl rfl rfl rfl).2
      isplitl [Hs2] <;> iassumption
    isplitl [Hg21]; · iexact Hg21
    isplitl [Hg30]; · iexact Hg30
    iexact Hg31
  isplitl [HO]; · iexact HO
  isplitl [Hx]; · iexact Hx
  isplitl [Hw] <;> iassumption

end Cert.RingMatmul

end
-- ==== Proof.Data.lean ====
/-
# The kernel as the launch sees it

What the staging buffers and the invariant contain before and after the one grid point, and the body's obligation
there, from `sound_body`.
-/
module

public import proofs.«01_k».proof.Proof.Body
public import proofs.«01_k».proof.Proof.Gen.KernelIdeal.Points

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: counters at zero. -/
def s₀ : MemSt nD τ sig (Elt F) := ⟨m, fun _ => 0, ρ⟩

/-- Device `c`'s block of rows of `x`, as fetched for the kernel, -/
def xAt (c : Dev nD) : Vec F S512x2048 .bf16 := (win0_0.blk t0_0).view.read (Elt F) (m ((c : Thread nD τ).loc main_arg0))
/-- and its block of columns of `w`. -/
def wAt (c : Dev nD) : Vec F S2048x512 .bf16 := (win0_1.blk t0_0).view.read (Elt F) (m ((c : Thread nD τ).loc main_arg1))

/-- What a device has when the kernel starts, besides its scratch buffers. -/
def start (c : Dev nD) : sProp 𝕄 :=
  iprop((∃ K, records (xAt m) K ∗ cellPos c ∗ payToks c) ∗ creds c ∗ levAts L lv)

/-- The pipeline's data: fetched arguments in, the result out, `O₀` owed before the point and nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wAt m c
    | ⟨2, _⟩ => outOf (xAt m) (wAt m c)
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

/-- A buffer with contents equal to `f₀`, held. -/
abbrev held (c : Dev nD) (b : Ref sig .tc) (f₀ : b.ty.Contents (Elt F)) : sProp 𝕄 :=
  iprop(∃ f : Buf (Elt F) (((c : Dev nD) : Thread nD τ).loc b), ⌜f = f₀⌝ ∗ (((c : Thread nD τ).loc b) ↦{fullShare} f))

omit [FloatOps F] in
theorem owns_whole (c : Dev nD) (b : Ref sig .tc) (f₀ : b.ty.Contents (Elt F)) :
    (owns (Ix := Unit) (Name := ℕ) (U := UU) (Lvl := ℕ) (c : Thread nD τ) (Memref.whole b) fullShare f₀ : sProp 𝕄) = held c b f₀ := by
  unfold owns; simp only [Memref.view_whole, View.read_whole, View.set_whole]

/-- What the pipeline hands the body, -/
def pointPre (c : Dev nD) : sProp 𝕄 :=
  iprop((start m c ∗ scratch c) ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))

/-- and takes from it. -/
def pointPost (c : Dev nD) : sProp 𝕄 :=
  iprop((zeros c ∗ scratch c) ∗ (dats m ρ 0 c).owesAt () t0_0.succ
    ∗ held c cc0_stg0_0 (xAt m c) ∗ held c cc0_stg1_0 (wAt m c) ∗ held c cc0_stg2_0 (outOf (xAt m) (wAt m c)))

theorem before_x (c : Dev nD) (d) : (dats m ρ 0 c).before (0 : Fin 3) t0_0 d = xAt m c := by
  unfold Dat.before; rw [if_pos (fetch0_0 t0_0)]; rfl
theorem before_w (c : Dev nD) (d) : (dats m ρ 0 c).before (1 : Fin 3) t0_0 d = wAt m c := by
  unfold Dat.before; rw [if_pos (fetch0_1 t0_0)]; rfl

theorem sound_point (c : Dev nD) :
    pointPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => pointPost m ρ c) := by
  unfold pointPre start
  simp only [before_x, before_w]
  unfold Dat.owesAt Pipeline.owesWithin
  rw [show (dats m ρ 0 c).owed t0_0.castSucc = O₀ c from rfl]
  iintro ⟨⟨⟨⟨%K, HR, Hp, Ht⟩, Hc, Hlev⟩, Hs⟩, ⟨%W, %hW, HO⟩, ⟨%_, %gx, %hx, Hx⟩, ⟨%_, %gw, %hw, Hw⟩, ⟨%_, %go, -, Ho⟩⟩
  subst hx hw
  iapply (sound_body (xAt m) K (wAt m c) c (fun _ => pointPost m ρ c))
  unfold pre owesSome
  isplitr []
  · isplitl [HR]; · iexact HR
    isplitl [Hlev]; · iexact Hlev
    isplitl [Hp]; · iexact Hp
    isplitl [Ht]; · iexact Ht
    isplitl [Hc]; · iexact Hc
    isplitl [Hs]; · iexact Hs
    isplitl [HO]; · iexists W; iexact HO
    isplitl [Hx]; · iexact Hx
    isplitl [Hw]; · iexact Hw
    iexists go; iexact Ho
  · unfold post owesSome pointPost Dat.owesAt Pipeline.owesWithin
    rw [show (dats m ρ 0 c).owed t0_0.succ = 0 from rfl]
    iintro ⟨Hz, Hs, ⟨%W', HO⟩, Hx, Hw, Ho⟩
    isplitl [Hz Hs]
    · isplitl [Hz] <;> iassumption
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho

set_option maxRecDepth 4000 in
/-- The body's obligation at the one grid point. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole]
  exact sound_point m ρ c

end Cert.RingMatmul

end
-- ==== Proof.Deal.lean ====
/-
# What the launch deals out

The resources of the protocol at launch: every cell's state, a place at it and the tokens of its duties are made for the
device that owns the cell; the cells' invariants are set up; the tokens then go to the device that pays. Last, the
credits a device starts with, from what all of them owe.
-/
module

public import proofs.«01_k».proof.Proof.Data

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x2048 .bf16)

/-! ## The cells and tokens made -/

theorem csem_injective : Function.Injective csem := by
  show ∀ a b, csem a = csem b → a = b
  decide

theorem kcell_injective : Function.Injective (kcell : Dev nD × Kind → GSem nD τ sig) := fun a b h =>
  Prod.ext (show a.1 = b.1 from congrArg (fun g : GSem nD τ sig => g.1.1) h) (csem_injective (congrArg Prod.snd h))

/-- All cells. -/
def allCells : Finset (GSem nD τ sig) := Finset.univ.map ⟨kcell, kcell_injective⟩

/-- A device's duties: two at its barrier, one at each send and receive cell. -/
abbrev Duty : Type := Bool ⊕ (Fin 6 ⊕ Fin 6)
abbrev dutySem : Duty → SemLoc sig × Bool := fun | .inl b => (.reg barS, b) | .inr k => (osem k, false)
theorem dutySem_injective : Function.Injective dutySem := by
  show ∀ a b, dutySem a = dutySem b → a = b
  decide

abbrev dutyOf (cd : Dev nD × Duty) : GSem nD τ sig × ℕ × Bool := (((cd.1 : Thread nD τ), (dutySem cd.2).1), 0, (dutySem cd.2).2)
theorem dutyOf_injective : Function.Injective dutyOf := fun a b h =>
  Prod.ext (show a.1 = b.1 from congrArg (fun x : GSem nD τ sig × ℕ × Bool => x.1.1.1) h)
    (dutySem_injective (congrArg (fun x : GSem nD τ sig × ℕ × Bool => (x.1.2, x.2.2)) h))

/-- All duties. -/
def allDuties : Finset (GSem nD τ sig × ℕ × Bool) := Finset.univ.map ⟨dutyOf, dutyOf_injective⟩

/-- The launch's resources: the staging pipeline's and the protocol's. -/
def u₀ : UU :=
  (initOf (Pipeline.cells cfgs cellOf_inj) (Pipeline.launchToks cfgs cellOf_inj), initOf allCells allDuties)

omit [FloatOps F] in
/-- A device's cells: its barrier, its sends, its receives. -/
theorem bigSep_kind (Φ : Kind → sProp 𝕄) : bigSep Finset.univ Φ
    = iprop(Φ kBar ∗ (bigSep Finset.univ fun i => Φ (kSnd i)) ∗ bigSep Finset.univ fun i => Φ (kRcv i)) := by
  rw [bigSep_univ_sum, bigSep_univ_sum, Finset.univ_unique, bigSep_singleton]; rfl

/-- The tokens of device `c`'s own cells. -/
def ownToks (c : Dev nD) : sProp 𝕄 :=
  iprop((dutyTok ER (barCell c) 0 false ∗ dutyTok ER (barCell c) 0 true)
    ∗ (bigSep Finset.univ fun i => dutyTok ER (sndCell i c) 0 false) ∗ bigSep Finset.univ fun i => dutyTok ER (rcvCell i c) 0 false)

/-- What is made for device `c`. -/
def made (c : Dev nD) : sProp 𝕄 :=
  iprop((bigSep Finset.univ fun k : Kind => roundState ER (Rd X) (kcell (c, k)) 0)
    ∗ (bigSep Finset.univ fun k : Kind => reached ER (kcell (c, k)) 0) ∗ cellPos c ∗ ownToks c)

/-- What it is dealt. -/
def dealt (c : Dev nD) : sProp 𝕄 := iprop(∃ K, records X K ∗ cellPos c ∗ payToks c)

omit [FloatOps F] in
theorem cells_split (Φ : GSem nD τ sig → sProp 𝕄) :
    bigSep allCells Φ = bigSep Finset.univ fun c : Dev nD => bigSep Finset.univ fun k : Kind => Φ (kcell (c, k)) := by
  unfold allCells; rw [bigSep_map, bigSep_univ_prod]; rfl

omit [FloatOps F] in
theorem duties_split : bigSep allDuties (fun x => (dutyTok ER x.1 x.2.1 x.2.2 : sProp 𝕄)) = bigSep Finset.univ fun c : Dev nD => ownToks c := by
  unfold allDuties
  rw [bigSep_map, bigSep_univ_prod]
  refine bigSep_congr fun c _ => ?_
  unfold ownToks
  rw [bigSep_univ_sum, bigSep_univ_sum, bigSep_univ_eq_bigSepL [false, true] (by decide) (by decide), bigSepL_cons_cons, bigSepL_singleton]
  rfl

omit [FloatOps F] in
theorem places_split (c : Dev nD) : (bigSep Finset.univ fun k : Kind => (atPos ER (kcell (c, k)) 0 ∅ 0 : sProp 𝕄)) = cellPos c := by
  rw [bigSep_kind]; rfl

omit [FloatOps F] in
/-- The protocol's launch resource is what is made for each device. -/
theorem make : BI.own (ER (initOf allCells allDuties)) ⊢ (|==> bigSep Finset.univ (made X) : sProp 𝕄) := by
  iintro H
  imod (Rounds.fund ER (Rd X) allCells allDuties) $$ H with ⟨Hst, Hr, Hat, Htok⟩
  imodintro
  unfold made
  simp only [bigSep_sep']
  isplitl [Hst]; · iapply (Entails.of_eq (cells_split fun g => roundState ER (Rd X) g 0)); iexact Hst
  isplitl [Hr]; · iapply (Entails.of_eq (cells_split (F := F) fun g => reached ER g 0)); iexact Hr
  isplitl [Hat]
  · iapply (Entails.of_eq ((cells_split (F := F) fun g => atPos ER g 0 ∅ 0).trans (bigSep_congr fun c _ => places_split c))); iexact Hat
  iapply (Entails.of_eq (duties_split (F := F))); iexact Htok

/-! ## Setting up the cells -/

omit [FloatOps F] in
/-- The kernel's own semaphores: sends and receives. -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sndCell i c) 0) ∗ bigSep Finset.univ fun i => semVal (rcvCell i c) 0) := by
  unfold Pipeline.ownSems0; rw [bigSep_univ_sum]; rfl
omit [FloatOps F] in
/-- The barrier is the one semaphore besides. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- One device's cells, each made an invariant. -/
theorem set_up (c : Dev nD) :
    iprop(Pipeline.ownSems0 (Ix := Unit) (Name := ℕ) (U := UU) (Lvl := ℕ) (Val := Elt F) (τ := τ) osem c ∗ unscopedSems0 c ∗ made X c)
      ⊢ |={Set.univ}=> iprop((bigSep Finset.univ fun k => iprop(∃ κ : ℕ, cellInv ER (Rd X) κ (kcell (c, k))))
          ∗ (bigSep Finset.univ fun k : Kind => reached ER (kcell (c, k)) 0) ∗ cellPos c ∗ ownToks c) := by
  unfold made
  rw [ownSems0_eq, unscopedSems0_eq]
  iintro ⟨⟨HS, HR⟩, HB, Hst, Hr, Hat, Htok⟩
  imod (show iprop((bigSep Finset.univ fun k : Kind => semVal (kcell (c, k)) 0) ∗ bigSep Finset.univ fun k : Kind => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [HS HR HB Hst] with Hinv
  · isplitr [Hst]
    · rw [bigSep_kind]
      isplitl [HB]; · iexact HB
      isplitl [HS] <;> iassumption
    iexact Hst
  imodintro
  isplitl [Hinv]; · iexact Hinv
  isplitl [Hr]; · iexact Hr
  isplitl [Hat] <;> iassumption

/-! ## Dealing the tokens -/

omit [FloatOps F] in
/-- Receive tokens go to the device whose copy lands. -/
theorem rcv_toks : (bigSep Finset.univ fun c : Dev nD => bigSep Finset.univ fun i : Fin 6 => (dutyTok ER (rcvCell i c) 0 false : sProp 𝕄))
    = bigSep Finset.univ fun c : Dev nD => bigSep Finset.univ fun i : Fin 6 => dutyTok ER (rcvCell i (toward i c)) 0 false := by
  rw [Pipeline.bigSep_univ_comm,
    bigSep_congr (s := Finset.univ) fun (i : Fin 6) _ => bigSep_univ_equiv (carry i) fun c : Dev nD => (dutyTok ER (rcvCell i c) 0 false : sProp 𝕄),
    Pipeline.bigSep_univ_comm]
  rfl

omit [FloatOps F] in
/-- Every token goes to the device that pays. -/
theorem toks_dealt : (bigSep Finset.univ fun c : Dev nD => (ownToks c : sProp 𝕄)) ⊢ bigSep Finset.univ fun c : Dev nD => payToks c := by
  unfold ownToks payToks
  simp only [bigSep_sep']
  rw [bigSep_univ_equiv around (fun c : Dev nD => (dutyTok ER (barCell c) 0 false : sProp 𝕄)),
    bigSep_univ_equiv around.symm (fun c : Dev nD => (dutyTok ER (barCell c) 0 true : sProp 𝕄)), rcv_toks]
  iintro ⟨⟨Hf, Ht⟩, Hs, Hr⟩
  isplitl [Ht]; · iexact Ht
  isplitl [Hf]; · iexact Hf
  isplitl [Hs] <;> iassumption

omit [FloatOps F] in
/-- The cells being set up on every device, each is dealt its part. -/
theorem deal :
    (bigSep Finset.univ fun c : Dev nD => iprop((bigSep Finset.univ fun k => iprop(∃ κ : ℕ, cellInv ER (Rd X) κ (kcell (c, k))))
          ∗ (bigSep Finset.univ fun k : Kind => reached ER (kcell (c, k)) 0) ∗ cellPos c ∗ ownToks c) : sProp 𝕄)
      ⊢ bigSep Finset.univ (dealt X) := by
  simp only [bigSep_sep']
  rw [← bigSep_univ_prod (fun ck : Dev nD × Kind => iprop(∃ κ : ℕ, cellInv ER (Rd X) κ (kcell ck))),
    ← bigSep_univ_prod (fun ck : Dev nD × Kind => (reached ER (kcell ck) 0 : sProp 𝕄))]
  iintro ⟨HI, #HR, Hat, Htok⟩
  ihave HK := (BI.bigSep_exists_pi Finset.univ (fun (ck : Dev nD × Kind) (κ : ℕ) => (cellInv ER (Rd X) κ (kcell ck) : sProp 𝕄))) $$ HI
  icases HK with ⟨%K, #HI⟩
  ihave Htk := (toks_dealt (F := F)) $$ Htok
  iapply (show iprop(records X K ∗ bigSep Finset.univ fun c : Dev nD => iprop(cellPos c ∗ payToks c)) ⊢ bigSep Finset.univ (dealt X) from
    (sep_mono_left (BI.bigSep_of_persistent Finset.univ (records X K))).trans (by
      rw [← bigSep_sep']
      exact bigSep_mono fun c _ => show iprop(records X K ∗ cellPos c ∗ payToks c) ⊢ dealt X c from by
        unfold dealt; iintro H; iexists K; iexact H))
  isplitr
  · unfold records; isplitl; · iexact HI
    iexact HR
  · rw [bigSep_sep']
    isplitl [Hat] <;> iassumption

omit [FloatOps F] in
/-- All of it in one step, from the semaphores at zero. -/
theorem set_up_and_deal : (bigSep Finset.univ fun c =>
      iprop(Pipeline.ownSems0 (Ix := Unit) (Name := ℕ) (U := UU) (Lvl := ℕ) (Val := Elt F) (τ := τ) osem c ∗ unscopedSems0 c ∗ made X c) : sProp 𝕄)
    ⊢ |={Set.univ}=> bigSep Finset.univ (dealt X) :=
  ((bigSep_mono fun c _ => set_up X c).trans (bigSep_fupd _ _)).trans (BI.fupd_mono (deal X))

/-! ## The credits -/

theorem bar_eq_iff {a b : Dev nD} : Iff (barCell a = barCell b) (a = b) :=
  ⟨congrArg fun g : GSem nD τ sig => g.1.1, fun h => h ▸ rfl⟩

theorem rcv_eq_iff {i j : Fin 6} {a b : Dev nD} : Iff (rcvCell i a = rcvCell j b) (i = j ∧ a = b) := by
  refine ⟨fun h => ⟨Fin.ext ?_, congrArg (fun g : GSem nD τ sig => g.1.1) h⟩, fun h => by rw [h.1, h.2]⟩
  have := congrArg (fun g : GSem nD τ sig => match g.2 with | .dma q => q.val | .reg _ => 0) h
  exact Nat.add_left_cancel this

theorem rcv_ne_bar (i : Fin 6) (a b : Dev nD) : rcvCell i a ≠ barCell b := fun h => by cases congrArg Prod.snd h

theorem toward_eq_iff (i : Fin 6) (c d : Dev nD) : Iff (c = toward i d) (d = fromward i c) :=
  ⟨fun h => by rw [h, fromward_toward], fun h => by rw [h, toward_fromward]⟩

/-- What the copies still to be started will bring to a receive cell. -/
theorem copies_rcv (d c : Dev nD) (i : Fin 6) (l : List (Fin 6)) :
    oweCopies d l (rcvCell i c) () = if d = fromward i c then l.count i * N else 0 := by
  induction l with
  | nil => unfold oweCopies; rw [List.count_nil, Nat.zero_mul, ite_self]; rfl
  | cons j l ih =>
    unfold oweCopies
    rw [Pi.add_apply, Finsupp.add_apply, ih, tallyAt_apply, List.count_cons]
    by_cases hj : j = i
    · subst hj
      by_cases hd : d = fromward j c
      · rw [if_pos hd, if_pos hd, if_pos ⟨rcv_eq_iff.mpr ⟨rfl, (toward_eq_iff j c d).mpr hd⟩, rfl⟩, if_pos (beq_self_eq_true j), Nat.add_mul, Nat.one_mul]
      · rw [if_neg hd, if_neg hd, if_neg fun h => hd ((toward_eq_iff j c d).mp (rcv_eq_iff.mp h.1).2)]
    · rw [if_neg (c := _ ∧ _) fun h => hj (rcv_eq_iff.mp h.1).1.symm, if_neg (c := (j == i) = true) fun h => hj (beq_iff_eq.mp h)]
      rfl

/-- They bring nothing to a barrier. -/
theorem copies_bar (d c : Dev nD) (l : List (Fin 6)) : oweCopies d l (barCell c) () = 0 := by
  by_contra h
  obtain ⟨i, -, e⟩ := oweCopies_pos (Nat.pos_of_ne_zero h)
  exact rcv_ne_bar _ _ _ e.symm

/-- Device `d` owes `c`'s barrier one unit as its left neighbour, one as its right. -/
theorem owed_bar (d c : Dev nD) : O₀ d (barCell c) () = (if d = lft c then 1 else 0) + if d = rgt c then 1 else 0 := by
  unfold O₀ O₁
  rw [Pi.add_apply, Finsupp.add_apply, Pi.add_apply, Finsupp.add_apply, copies_bar, Nat.zero_add, tallyAt_apply, tallyAt_apply]
  have h₁ : Iff (barCell c = barCell (rgt d) ∧ () = ()) (d = lft c) :=
    ⟨fun h => by rw [bar_eq_iff.mp h.1, lft_rgt], fun h => ⟨by rw [h, rgt_lft], rfl⟩⟩
  have h₂ : Iff (barCell c = barCell (lft d) ∧ () = ()) (d = rgt c) :=
    ⟨fun h => by rw [bar_eq_iff.mp h.1, rgt_lft], fun h => ⟨by rw [h, lft_rgt], rfl⟩⟩
  rw [if_congr h₁ rfl rfl, if_congr h₂ rfl rfl]

theorem owed_rcv (d c : Dev nD) (i : Fin 6) : O₀ d (rcvCell i c) () = if d = fromward i c then N else 0 := by
  unfold O₀ O₁
  rw [Pi.add_apply, Finsupp.add_apply, Pi.add_apply, Finsupp.add_apply, tallyAt_ne_cell (rcv_ne_bar _ _ _),
    tallyAt_ne_cell (rcv_ne_bar _ _ _), Finsupp.zero_apply, Nat.add_zero, Nat.add_zero, copies_rcv,
    show order.count i = 1 from by revert i; decide, Nat.one_mul]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem credit_rcv (i : Fin 6) (c : Dev nD) :
    tallyOn (rcvCell i c) (launchCredit (Pipeline.owing O₀) 0 (rcvCell i c)) = (tallyAt (rcvCell i c) () N : CellTallies nD τ sig Unit) := by
  unfold tallyAt; refine congrArg _ (Finsupp.ext fun u => ?_); cases u
  rw [Pipeline.launchCredit_owing, Finsupp.single_eq_same, Finset.sum_congr rfl fun d _ => owed_rcv d c i,
    Finset.sum_ite_eq' Finset.univ (fromward i c) fun _ => N, if_pos (Finset.mem_univ _)]

/-- The receive semaphores among all. -/
def rcvEmb : Fin 6 ↪ SemLoc sig := ⟨fun i => .dma (rcvS i), by show ∀ i j : Fin 6, _ → _; decide⟩

omit [FloatOps F] in
/-- Device `c`'s credits, from what all devices owe. -/
theorem creds_intro (c : Dev nD) : (Pipeline.launchCred O₀ c : sProp 𝕄) ⊢ creds c := by
  unfold Pipeline.launchCred creds
  rw [bigSep_univ_at _ (SemLoc.reg barS), credit_bar]
  refine sep_mono_right ?_
  have e : bigSep (Finset.univ.map rcvEmb) (fun sm => (cred (tallyOn ((c : Thread nD τ), sm) (launchCredit (Pipeline.owing O₀) 0 ((c : Thread nD τ), sm))) : sProp 𝕄))
      = bigSep Finset.univ fun i : Fin 6 => cred (tallyAt (rcvCell i c) () N) :=
    bigSep_map rcvEmb |>.trans (bigSep_congr fun i _ => congrArg cred (credit_rcv i c))
  rw [← e]
  refine BI.bigSep_subset fun g hg => ?_
  obtain ⟨i, -, rfl⟩ := Finset.mem_map.mp hg
  exact Finset.mem_erase.mpr ⟨(fun h => by cases h), Finset.mem_univ _⟩

end Cert.RingMatmul

end
-- ==== Proof.Launch.lean ====
/-
# The kernel's run

From any memory, with all counters at zero, on all four devices at once: every run of the program ends, with the
arrays at the contents the pipeline's data state and every counter back at zero.
-/
module

public import proofs.«01_k».proof.Proof.Deal
public import Idealize.ShloMosaic.Lib.Pipeline.CollectiveSegs

@[expose] public section

noncomputable section

namespace Cert.RingMatmul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt (xAt m) c)
      ⊢ |={Set.univ}=> iprop(start m c ∗ emp) := by
  iintro ⟨-, Hlev, Hcr, -, HG⟩
  ihave Hc := (creds_intro (F := F) c) $$ Hcr
  imodintro
  unfold start dealt
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, ownSems0_eq, unscopedSems0_eq]
  unfold zeros scratch
  iintro ⟨⟨HB, HS, HR⟩, Hr⟩
  isplitl [HB]; · iexact HB
  isplitl [HS HR]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

/-- Every device's arrays after the run. -/
def Ended : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values, from any memory with counters at zero: every fair run of the
    four programs ends, and then each device's arrays are the stated ones and every counter is at zero. -/
theorem run_main : θ_run defs (onTc (τ := τ) (main (F := F))) (s₀ m ρ) (fun r => Ended m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := made (xAt m)) (G' := dealt (xAt m)) (u₀ := u₀)
    (hu₀ := by
      unfold u₀
      iintro Hu
      ihave H := (ownU_pair _ _) $$ Hu
      icases H with ⟨HP, HX⟩
      imod (make (xAt m)) $$ HX with HG
      imodintro
      isplitl [HP] <;> iassumption)
    (hglob := set_up_and_deal (xAt m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- `x` is as it was, -/
theorem final_x (c : Dev nD) : finalA m ρ c (0 : Fin 3) = m ((c : Thread nD τ).loc main_arg0) :=
  (dats (F := F) m ρ 0 c).arrAt_in (0 : Fin 3) rfl _
/-- `w` is as it was, -/
theorem final_w (c : Dev nD) : finalA m ρ c (1 : Fin 3) = m ((c : Thread nD τ).loc main_arg1) :=
  (dats (F := F) m ρ 0 c).arrAt_in (1 : Fin 3) rfl _

/-- A window's block is its whole array: it starts at the origin. -/
theorem origin_x : (fun a => win0_0.index t0_0 a * main_arg0.ty.shape.size a) = fun _ => 0 := funext fun a => by fin_cases a <;> decide
theorem origin_w : (fun a => win0_1.index t0_0 a * main_arg1.ty.shape.size a) = fun _ => 0 := funext fun a => by fin_cases a <;> decide
theorem origin_out : (fun a => win0_2.index t0_0 a * main_v1.ty.shape.size a) = fun _ => 0 := funext fun a => by fin_cases a <;> decide

omit [FloatOps F] in
theorem xAt_eq (c : Dev nD) : xAt m c = m ((c : Thread nD τ).loc main_arg0) :=
  Memref.read_access_unit_zero (Elt F) main_arg0 origin_x _ _
omit [FloatOps F] in
theorem wAt_eq (c : Dev nD) : wAt m c = m ((c : Thread nD τ).loc main_arg1) :=
  Memref.read_access_unit_zero (Elt F) main_arg1 origin_w _ _

/-- and the result is what the body leaves in its staging buffer. -/
theorem final_out (c : Dev nD) : finalA m ρ c (2 : Fin 3) = outOf (xAt m) (wAt m c) := by
  have h : (win0_2.blk t0_0).view.read (Elt F) (finalA m ρ c (2 : Fin 3)) = outOf (xAt m) (wAt m c) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 origin_out _ _).symm.trans h

/-- What every run ends with, spelled out. -/
theorem run : θ_run defs (onTc (τ := τ) (main (F := F))) (s₀ m ρ) (fun r =>
    (∀ c : Dev nD, r.2.mem ((c : Thread nD τ).loc main_v1) = outOf (fun d => m ((d : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun r h => ⟨fun c =>
    ⟨(h.1 c (2 : Fin 3)).trans ((final_out m ρ c).trans (by rw [wAt_eq, show xAt m = _ from funext (xAt_eq m)])),
      (h.1 c (0 : Fin 3)).trans (final_x m ρ c), (h.1 c (1 : Fin 3)).trans (final_w m ρ c)⟩, h.2⟩) (run_main m ρ)

/-- Of it, what does not name the result: the arguments are unchanged and every counter is at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => (h.1 c).2, h.2⟩) (run m ρ)

end Cert.RingMatmul

end
-- ==== Proof.Entries.lean ====
/-
# What one block of the kernel's result is, over exact numbers

An entry is the larger of zero and the product of a row of `x` with a column of `w`; the whole result of a device is the
one row by its columns of `w`, whichever device the row came from.
-/
module

public import proofs.«01_k».proof.Proof.Output
public import Idealize.ShloMosaic.Lib.Pointwise

@[expose] public section

noncomputable section

namespace Cert.RingMatmul

open Cert.KernelIdeal Cert.KernelIdeal.Gen
open Idealize.ShloMosaic hiding ix2 ix3 eq_ix2
open Idealize.ShloMosaic.ValueIdx

variable (X : Dev nD → Vec Ideal S512x2048 .bf16) (w : Vec Ideal S2048x512 .bf16)

/-- One stored block: row `x` of the loaded rows by column `y` of `w`, negative values replaced by zero. -/
theorem pay4_apply (v : Vec Ideal S1x256x2048 .bf16) (x : Fin 256) (y : Fin 512) :
    k0_pay4 v w (ix2 x y) = max (∑ k : Fin 2048, v (ix3 (0 : Fin 1) x k) * w (ix2 k y)) 0 := by
  pointwise [k0_pay4]
  rfl

/-- The whole result: row `i` of all devices' rows of `x`, device after device, by column `j` of `w`. -/
theorem outOf_apply (i : Fin 2048) (j : Fin 512) :
    outOf X w (ix2 i j) = max (∑ k : Fin 2048, X (⟨i.val / 512, by omega⟩ : Fin 4) (ix2 (⟨i.val % 512, by omega⟩ : Fin 512) k) * w (ix2 k j)) 0 := by
  unfold outOf outBlock
  rw [show ((ix2 i j : S2048x512.Idx) 1) = j from rfl, pay4_apply]
  unfold half
  refine congrArg (max · 0) (Finset.sum_congr rfl fun k _ => congrArg (· * _) ?_)
  refine congrArg₂ X (Fin.ext rfl) ?_
  refine congrArg (fun r : Fin 512 => (ix2 r k : S512x2048.Idx)) (Fin.ext ?_)
  show 256 * (i.val % 512 / 256) + i.val % 256 = i.val % 512
  omega

end Cert.RingMatmul

end
-- ==== Proof.Reference.lean ====
/-
# What the reference computes, over exact numbers

Rounding a product to sixteen bits and back changes nothing there: an entry of the reference's result is the larger of
zero and the product of a row of `x` with a column of `w`.
-/
module

public import proofs.«01_k».proof.Proof.Gen.ReferenceIdeal.Run
public import Idealize.ShloMosaic.Lib.Pointwise

@[expose] public section

noncomputable section

namespace Cert.RingMatmul

open Cert.ReferenceIdeal Cert.ReferenceIdeal.Gen
open Idealize.ShloMosaic hiding ix2 ix3 eq_ix2
open Idealize.ShloMosaic.TcCoe
open Idealize.ShloMosaic.ValueIdx
open Idealize.SL.Sem

/-- The reference's result, as its operations put it together. -/
def refOut (x w : FVec Ideal S2048x2048 .bf16) : FVec Ideal S2048x2048 .f32 :=
  maximumf (extf .f32 (truncf .bf16 (Host.dotGeneral dot_S2048x2048_S2048x2048_S2048x2048_1_0_0_1_n_n none x w : FVec Ideal S2048x2048 .f32) bitsLt_bf16_f32) bitsLt_bf16_f32)
    (broadcastInDim S2048x2048 ![] bcast_S_S2048x2048 (constant S_ .f32 0x00000000#32))

/-- An entry of it. -/
theorem refOut_apply (x w : FVec Ideal S2048x2048 .bf16) (i j : Fin 2048) :
    refOut x w (ix2 i j) = max (∑ k : Fin 2048, x (ix2 i k) * w (ix2 k j)) 0 := by
  pointwise [refOut]
  rfl

/-- Every run of the reference ends with `refOut` of its arguments as the result, and the arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.RingMatmul

end
-- ==== Proof.Equation.lean ====
/-
# The equation

The devices' rows of `x` put together are the whole of `x`, and a device's columns of `w` are a block of the columns of
the whole: so what a device computes is the block of the reference's result with the same columns.
-/
module

public import proofs.«01_k».proof.Proof.Entries
public import proofs.«01_k».proof.Proof.Reference
public import Idealize.ShloMosaic.Lib.Layout

@[expose] public section

noncomputable section

namespace Cert.RingMatmul

open Cert.KernelIdeal
open Idealize.ShloMosaic hiding ix2 ix3 eq_ix2
open Idealize.ShloMosaic.ValueIdx

/-- Entry `(r, k)` of device `d`'s rows of an array is the array's entry `512 d + r, k`. -/
theorem rows_apply {α : Type} (d : Fin 4) (v : Cert.ReferenceIdeal.S2048x2048.Idx → α) (r : Fin 512) (k : Fin 2048)
    (h : Layout.Tiles ⟨2, ![512, 2048]⟩ ⟨2, ![2048, 2048]⟩ 0 4) :
    Layout.block ⟨2, ![512, 2048]⟩ ⟨2, ![2048, 2048]⟩ 0 4 d v h (ix2 r k)
      = v (ix2 (⟨d.val * 512 + r.val, by omega⟩ : Fin 2048) k) := by
  rw [Layout.block_apply]
  refine congrArg v (funext fun a => ?_)
  match a with
  | ⟨0, _⟩ => exact Fin.ext (Layout.idx_rows_val h d (ix2 r k)).1
  | ⟨1, _⟩ => exact Fin.ext (Layout.idx_rows_val h d (ix2 r k)).2

/-- Entry `(k, j)` of device `c`'s columns of an array is the array's entry `k, 512 c + j`. -/
theorem cols_apply {α : Type} (c : Fin 4) (v : Cert.ReferenceIdeal.S2048x2048.Idx → α) (k : Fin 2048) (j : Fin 512)
    (h : Layout.Tiles ⟨2, ![2048, 512]⟩ ⟨2, ![2048, 2048]⟩ 1 4) :
    Layout.block ⟨2, ![2048, 512]⟩ ⟨2, ![2048, 2048]⟩ 1 4 c v h (ix2 k j)
      = v (ix2 k (⟨c.val * 512 + j.val, by omega⟩ : Fin 2048)) := by
  rw [Layout.block_apply]
  refine congrArg v (funext fun a => ?_)
  match a with
  | ⟨0, _⟩ => exact Fin.ext (Layout.idx_cols_val h c (ix2 k j)).1
  | ⟨1, _⟩ => exact Fin.ext (Layout.idx_cols_val h c (ix2 k j)).2

/-- What device `c` computes from the blocks of `x` and its block of `w` is its block of the reference's result. -/
theorem out_eq (x w : FVec Ideal Cert.ReferenceIdeal.S2048x2048 .bf16) (c : Fin 4)
    (hr : Layout.Tiles ⟨2, ![512, 2048]⟩ ⟨2, ![2048, 2048]⟩ 0 4) (hc : Layout.Tiles ⟨2, ![2048, 512]⟩ ⟨2, ![2048, 2048]⟩ 1 4) :
    outOf (F := Ideal) (fun d => Layout.block ⟨2, ![512, 2048]⟩ ⟨2, ![2048, 2048]⟩ 0 4 d x hr)
        (Layout.block ⟨2, ![2048, 512]⟩ ⟨2, ![2048, 2048]⟩ 1 4 c w hc)
      = Layout.block ⟨2, ![2048, 512]⟩ ⟨2, ![2048, 2048]⟩ 1 4 c (refOut x w) hc := by
  funext i
  obtain ⟨a, b, rfl⟩ : ∃ (a : Fin 2048) (b : Fin 512), i = ix2 a b := ⟨i 0, i 1, eq_ix2 i⟩
  rw [outOf_apply, cols_apply c (refOut x w) a b hc, refOut_apply]
  refine congrArg (max · 0) (Finset.sum_congr rfl fun k _ => ?_)
  rw [rows_apply, cols_apply]
  refine congrArg (fun r : Fin 2048 => x (ix2 r k) * _) (Fin.ext ?_)
  show a.val / 512 * 512 + a.val % 512 = a.val
  omega

end Cert.RingMatmul

end
-- ==== Proof.SameText.lean ====
/-
# The two kernels are one program

The kernel to be read over exact numbers was printed without a rewrite, so it is the kernel as compiled, word for word:
their tables of bodies are equal, over any float values. A run of the one is a run of the other.
-/
module

public import proofs.«01_k».proof.Proof.Gen.Kernel
public import proofs.«01_k».proof.Proof.Gen.KernelIdeal

@[expose] public section

noncomputable section

namespace Cert.RingMatmul

open Idealize.ShloMosaic

variable {F : FTy → Type} [FloatOps F]

/-- The body is the same, -/
theorem body_eq : Cert.Kernel.cc0_body (F := F) = Cert.KernelIdeal.cc0_body := rfl

/-- so the kernel's table is, -/
theorem defs₀_eq : Cert.Kernel.defs₀ (F := F) = Cert.KernelIdeal.defs₀ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀))
    (funext fun ℓ => funext fun x => ?_)
  match ℓ, x with
  | 0, (t, s) => exact congrFun (congrFun (congrFun (congrFun (congrFun (congrFun (congrFun (congrFun (congrFun (congrFun (congrFun (congrFun body_eq _) _) _) _) _) _) _) _) _) _) _) _

/-- and the table of the whole program. -/
theorem defs_eq : Cert.Kernel.defs (F := F) = Cert.KernelIdeal.defs := by
  unfold Cert.Kernel.defs Cert.KernelIdeal.defs
  rw [defs₀_eq]
  rfl

end Cert.RingMatmul

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem Cert.RingMatmul

/-- The kernel as compiled, on the machine's own float values: it ends, its arguments unchanged, every counter at zero.
    It is the kernel whose run is stated over any float values. -/
theorem frame_kernel : Cert.quiescent_Kernel := fun m ρ _ => by
  have h := run_frame (F := Bits) m ρ
  rw [← defs_eq] at h
  exact h

/-- The same over exact numbers. -/
theorem frame_kernelIdeal : Cert.quiescent_KernelIdeal := fun m ρ _ => run_frame (F := Ideal) m ρ

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (run_reference m ρ)

/-- Over exact numbers each device's result is its block of columns of the reference's result. -/
theorem algebraic : Cert.algebraic_KernelIdeal_ReferenceIdeal := fun m ρ m' ρ' _ hargs =>
  ⟨_, (θ_run Cert.KernelIdeal.defs _ _).mono (fun _ h c => ⟨(h.1 c).1.trans (by
        rw [(hargs c).2, show (fun d : Dev Cert.KernelIdeal.nD => m ((d.tc : Thread Cert.KernelIdeal.nD Cert.KernelIdeal.τ).loc Cert.KernelIdeal.main_arg0)) = _
          from funext fun d => (hargs d).1]
        exact out_eq _ _ c _ _), (h.1 c).2⟩) (run (F := Ideal) m ρ),
    (θ_run Cert.ReferenceIdeal.defs _ _).mono (fun _ h => h 0) (run_reference m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
